-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_partials_bounded_KernelIdeal [hPre_partials_bounded_KernelIdeal : Cert.Pre_partials_bounded_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_partials_bounded_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_partials_bounded_ReferenceIdeal [hPre_partials_bounded_ReferenceIdeal : Cert.Pre_partials_bounded_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_partials_bounded_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_partials_bounded_KernelIdeal [hKernelIdeal : Cert.KernelIdeal.Facts] [hPre_partials_bounded_KernelIdeal : Cert.Pre_partials_bounded_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_partials_bounded_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_partials_bounded_ReferenceIdeal [hReferenceIdeal : Cert.ReferenceIdeal.Facts] [hPre_partials_bounded_ReferenceIdeal : Cert.Pre_partials_bounded_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_partials_bounded_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_partials_bounded_KernelIdeal [hKernelIdeal : Cert.KernelIdeal.Facts] [hReferenceIdeal : Cert.ReferenceIdeal.Facts] [hPre_partials_bounded_KernelIdeal : Cert.Pre_partials_bounded_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_partials_bounded_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 8192]⟩ ⟨2, ![4096, 8192]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 8192]⟩ ⟨2, ![4096, 8192]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_partials_bounded_KernelIdeal : Cert.Pre_partials_bounded_KernelIdeal.Facts) (hPre_partials_bounded_ReferenceIdeal : Cert.Pre_partials_bounded_ReferenceIdeal.Facts),
    quiescent_Kernel (hKernel := hKernel)
    ∧ quiescent_KernelIdeal (hKernelIdeal := hKernelIdeal)
    ∧ quiescent_KernelIdeal_pre_partials_bounded_KernelIdeal (hKernelIdeal := hKernelIdeal) (hPre_partials_bounded_KernelIdeal := hPre_partials_bounded_KernelIdeal)
    ∧ quiescent_ReferenceIdeal (hReferenceIdeal := hReferenceIdeal)
    ∧ quiescent_ReferenceIdeal_pre_partials_bounded_ReferenceIdeal (hReferenceIdeal := hReferenceIdeal) (hPre_partials_bounded_ReferenceIdeal := hPre_partials_bounded_ReferenceIdeal)
    ∧ preserves_Kernel_KernelIdeal
    ∧ algebraic_KernelIdeal_ReferenceIdeal_pre_partials_bounded_KernelIdeal (hKernelIdeal := hKernelIdeal) (hReferenceIdeal := hReferenceIdeal) (hPre_partials_bounded_KernelIdeal := hPre_partials_bounded_KernelIdeal)
-- ==== Pre_partials_bounded_KernelIdeal.lean ====
abbrev S4096x512 : Shape := ⟨2, ![4096, 512]⟩
abbrev S512x8192 : Shape := ⟨2, ![512, 8192]⟩
abbrev S4096x8192 : Shape := ⟨2, ![4096, 8192]⟩
abbrev S_ : Shape := ⟨0, ![]⟩

class Facts : Prop where
  bitsLt_bf16_f32 : FTy.bits .bf16 < FTy.bits .f32
  bcast_S_S4096x8192 : S_.BroadcastsInDim S4096x8192 (![] : Fin 0 → Fin S4096x8192.rank)
  dot_S4096x512_S512x8192_S4096x8192_1_0_0_1_n_n_wf : DotDims.WF S4096x512 S512x8192 S4096x8192 [1] [0] [0] [1] [] []

variable [Facts]

def dot_S4096x512_S512x8192_S4096x8192_1_0_0_1_n_n : DotDims S4096x512 S512x8192 S4096x8192 where
  lhsContracting := [1]
  rhsContracting := [0]
  lhsNonContracting := [0]
  rhsNonContracting := [1]
  lhsBatch := []
  rhsBatch := []
  wf := dot_S4096x512_S512x8192_S4096x8192_1_0_0_1_n_n_wf
def fn {F : FTy → Type} [FloatOps F] (main_arg0 : FVec F S4096x512 .bf16) (main_arg1 : FVec F S512x8192 .bf16) : IVec S4096x8192 1 :=
  let main_v0 : FVec F S4096x512 .f32 := (extf .f32 · bitsLt_bf16_f32) main_arg0
  let main_v1 : FVec F S512x8192 .f32 := (extf .f32 · bitsLt_bf16_f32) main_arg1
  let main_v2 : FVec F S4096x8192 .f32 := (fun l r => Host.dotGeneral dot_S4096x512_S512x8192_S4096x8192_1_0_0_1_n_n none l r) main_v0 main_v1
  let main_v3 : FVec F S4096x8192 .f32 := Host.absf main_v2
  let main_cst : FVec F S_ .f32 := constant S_ .f32 0x40F00000#32
  let main_v4 : FVec F S4096x8192 .f32 := broadcastInDim S4096x8192 ![] bcast_S_S4096x8192 main_cst
  let main_v5 : IVec S4096x8192 1 := cmpf .ole main_v3 main_v4
  main_v5
-- ==== Pre_partials_bounded_ReferenceIdeal.lean ====
abbrev S4096x4096 : Shape := ⟨2, ![4096, 4096]⟩
abbrev S4096x8192 : Shape := ⟨2, ![4096, 8192]⟩
abbrev S_ : Shape := ⟨0, ![]⟩

class Facts : Prop where
  bitsLt_bf16_f32 : FTy.bits .bf16 < FTy.bits .f32
  bcast_S_S4096x8192 : S_.BroadcastsInDim S4096x8192 (![] : Fin 0 → Fin S4096x8192.rank)
  dot_S4096x4096_S4096x8192_S4096x8192_1_0_0_1_n_n_wf : DotDims.WF S4096x4096 S4096x8192 S4096x8192 [1] [0] [0] [1] [] []

variable [Facts]

def dot_S4096x4096_S4096x8192_S4096x8192_1_0_0_1_n_n : DotDims S4096x4096 S4096x8192 S4096x8192 where
  lhsContracting := [1]
  rhsContracting := [0]
  lhsNonContracting := [0]
  rhsNonContracting := [1]
  lhsBatch := []
  rhsBatch := []
  wf := dot_S4096x4096_S4096x8192_S4096x8192_1_0_0_1_n_n_wf
def fn {F : FTy → Type} [FloatOps F] (main_arg0 : FVec F S4096x4096 .bf16) (main_arg1 : FVec F S4096x8192 .bf16) : IVec S4096x8192 1 :=
  let main_v0 : FVec F S4096x4096 .f32 := (extf .f32 · bitsLt_bf16_f32) main_arg0
  let main_v1 : FVec F S4096x8192 .f32 := (extf .f32 · bitsLt_bf16_f32) main_arg1
  let main_v2 : FVec F S4096x8192 .f32 := (fun l r => Host.dotGeneral dot_S4096x4096_S4096x8192_S4096x8192_1_0_0_1_n_n none l r) main_v0 main_v1
  let main_v3 : FVec F S4096x8192 .f32 := Host.absf main_v2
  let main_cst : FVec F S_ .f32 := constant S_ .f32 0x40F00000#32
  let main_v4 : FVec F S4096x8192 .f32 := broadcastInDim S4096x8192 ![] bcast_S_S4096x8192 main_cst
  let main_v5 : IVec S4096x8192 1 := cmpf .ole main_v3 main_v4
  main_v5
-- ==== Kernel.lean ====
abbrev S4096x512 : Shape := ⟨2, ![4096, 512]⟩
abbrev S512x8192 : Shape := ⟨2, ![512, 8192]⟩
abbrev S4x512x1024 : Shape := ⟨3, ![4, 512, 1024]⟩
abbrev S2x512x1024 : Shape := ⟨3, ![2, 512, 1024]⟩
abbrev S4 : Shape := ⟨1, ![4]⟩
abbrev S2 : Shape := ⟨1, ![2]⟩
abbrev S_ : Shape := ⟨0, ![]⟩
abbrev S512x512 : Shape := ⟨2, ![512, 512]⟩
abbrev S512x1024 : Shape := ⟨2, ![512, 1024]⟩
abbrev S1x512x1024 : Shape := ⟨3, ![1, 512, 1024]⟩
abbrev S1 : Shape := ⟨1, ![1]⟩

abbrev nBuf : Space → Nat
  | .hbm => 3
  | .vmem => 7
  | .smem => 0
  | _ => 0

abbrev bufTy : (tb : Table) → Fin (tcTables nBuf tb) → BufTy
  | .hbm, ⟨0, _⟩ => ⟨S4096x512, .bf16⟩
  | .hbm, ⟨1, _⟩ => ⟨S512x8192, .bf16⟩
  | .hbm, ⟨2, _⟩ => ⟨S512x8192, .f32⟩
  | .local _ .vmem, ⟨0, _⟩ => ⟨S4096x512, .bf16⟩
  | .local _ .vmem, ⟨1, _⟩ => ⟨S512x8192, .bf16⟩
  | .local _ .vmem, ⟨2, _⟩ => ⟨S4x512x1024, .bf16⟩
  | .local _ .vmem, ⟨3, _⟩ => ⟨S4x512x1024, .bf16⟩
  | .local _ .vmem, ⟨4, _⟩ => ⟨S4x512x1024, .bf16⟩
  | .local _ .vmem, ⟨5, _⟩ => ⟨S4x512x1024, .bf16⟩
  | .local _ .vmem, ⟨6, _⟩ => ⟨S2x512x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 3 → Bool
  | ⟨0, _⟩ => true
  | ⟨1, _⟩ => true
  | ⟨2, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 3 20 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_sem0_0 : DmaSem sig := 0
abbrev cc0_sem1_0 : DmaSem sig := 1
abbrev barrier0 : Sem sig := 2

abbrev nD : Nat := 8
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_off1 (d0 : Dev nD) (c0_i32_19 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v30 : BitVec 32 := Scalar.subi v2 c0_i32_19
  let c1_i32_20 : BitVec 32 := 1#32
  let v31 : BitVec 32 := Scalar.subi v30 c1_i32_20
  let c8_i32_21 : BitVec 32 := 8#32
  let c0_i32_22 : BitVec 32 := 0#32
  let v32 : BitVec 1 := Scalar.cmpi .eq c8_i32_21 c0_i32_22
  let c1_i32_23 : BitVec 32 := 1#32
  let v33 : BitVec 32 := Scalar.select v32 c1_i32_23 c8_i32_21
  let v34 : BitVec 32 := Scalar.remsi v31 v33
  let c0_i32_25 : BitVec 32 := 0#32
  let v36 : BitVec 1 := Scalar.cmpi .slt v34 c0_i32_25
  let c0_i32_26 : BitVec 32 := 0#32
  let v37 : BitVec 1 := Scalar.cmpi .slt v33 c0_i32_26
  let v38 : BitVec 1 := Scalar.xori v36 v37
  let c0_i32_24 : BitVec 32 := 0#32
  let v35 : BitVec 1 := Scalar.cmpi .ne v34 c0_i32_24
  let v39 : BitVec 1 := Scalar.andi v38 v35
  let v40 : BitVec 32 := Scalar.addi v34 v33
  let v41 : BitVec 32 := Scalar.select v39 v40 v34
  let c512_i32 : BitVec 32 := 512#32
  let v42 : BitVec 32 := Scalar.muli v41 c512_i32
  let v43 : Index := Scalar.indexCast v42
  let c0 : Index := 0#32
  ![v43.toNat, 0]
def k0_dev3 (d0 : Dev nD) : Nat :=
  let c0_i32_37 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_36 : BitVec 32 := 1#32
  let v53 : BitVec 32 := Scalar.muli v24 c1_i32_36
  let v54 : BitVec 32 := Scalar.addi c0_i32_37 v53
  v54.toNat
def k0_off2 (d0 : Dev nD) (c0_i32_42 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v63 : BitVec 32 := Scalar.addi v2 c0_i32_42
  let c1_i32_43 : BitVec 32 := 1#32
  let v64 : BitVec 32 := Scalar.addi v63 c1_i32_43
  let c8_i32_44 : BitVec 32 := 8#32
  let c0_i32_45 : BitVec 32 := 0#32
  let v65 : BitVec 1 := Scalar.cmpi .eq c8_i32_44 c0_i32_45
  let c1_i32_46 : BitVec 32 := 1#32
  let v66 : BitVec 32 := Scalar.select v65 c1_i32_46 c8_i32_44
  let v67 : BitVec 32 := Scalar.remsi v64 v66
  let c0_i32_48 : BitVec 32 := 0#32
  let v69 : BitVec 1 := Scalar.cmpi .slt v67 c0_i32_48
  let c0_i32_49 : BitVec 32 := 0#32
  let v70 : BitVec 1 := Scalar.cmpi .slt v66 c0_i32_49
  let v71 : BitVec 1 := Scalar.xori v69 v70
  let c0_i32_47 : BitVec 32 := 0#32
  let v68 : BitVec 1 := Scalar.cmpi .ne v67 c0_i32_47
  let v72 : BitVec 1 := Scalar.andi v71 v68
  let v73 : BitVec 32 := Scalar.addi v67 v66
  let v74 : BitVec 32 := Scalar.select v72 v73 v67
  let c512_i32_50 : BitVec 32 := 512#32
  let v75 : BitVec 32 := Scalar.muli v74 c512_i32_50
  let v76 : Index := Scalar.indexCast v75
  let c0_51 : Index := 0#32
  ![v76.toNat, 0]
def k0_dev4 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_61 : BitVec 32 := 1#32
  let v86 : BitVec 32 := Scalar.muli v13 c1_i32_61
  let v87 : BitVec 32 := Scalar.addi c0_i32_62 v86
  v87.toNat
def k0_dev5 (d0 : Dev nD) : Nat :=
  let c0_i32_86 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_85 : BitVec 32 := 1#32
  let v119 : BitVec 32 := Scalar.muli v24 c1_i32_85
  let v120 : BitVec 32 := Scalar.addi c0_i32_86 v119
  v120.toNat
def k0_dev6 (d0 : Dev nD) : Nat :=
  let c0_i32_111 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_110 : BitVec 32 := 1#32
  let v152 : BitVec 32 := Scalar.muli v13 c1_i32_110
  let v153 : BitVec 32 := Scalar.addi c0_i32_111 v152
  v153.toNat
def k0_dev7 (d0 : Dev nD) : Nat :=
  let c0_i32_135 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_134 : BitVec 32 := 1#32
  let v185 : BitVec 32 := Scalar.muli v24 c1_i32_134
  let v186 : BitVec 32 := Scalar.addi c0_i32_135 v185
  v186.toNat
def k0_dev8 (d0 : Dev nD) : Nat :=
  let c0_i32_160 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_159 : BitVec 32 := 1#32
  let v218 : BitVec 32 := Scalar.muli v13 c1_i32_159
  let v219 : BitVec 32 := Scalar.addi c0_i32_160 v218
  v219.toNat
def k0_dev9 (d0 : Dev nD) : Nat :=
  let c0_i32_183 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_182 : BitVec 32 := 1#32
  let v251 : BitVec 32 := Scalar.muli v24 c1_i32_182
  let v252 : BitVec 32 := Scalar.addi c0_i32_183 v251
  v252.toNat
def k0_dev10 (d0 : Dev nD) : Nat :=
  let c0_i32_208 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_207 : BitVec 32 := 1#32
  let v284 : BitVec 32 := Scalar.muli v13 c1_i32_207
  let v285 : BitVec 32 := Scalar.addi c0_i32_208 v284
  v285.toNat
def k0_dev11 (d0 : Dev nD) : Nat :=
  let c0_i32_253 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_252 : BitVec 32 := 1#32
  let v334 : BitVec 32 := Scalar.muli v13 c1_i32_252
  let v335 : BitVec 32 := Scalar.addi c0_i32_253 v334
  v335.toNat
def k0_dev12 (d0 : Dev nD) : Nat :=
  let c0_i32_261 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_260 : BitVec 32 := 1#32
  let v336 : BitVec 32 := Scalar.muli v24 c1_i32_260
  let v337 : BitVec 32 := Scalar.addi c0_i32_261 v336
  v337.toNat
def k0_dev13 (d0 : Dev nD) : Nat :=
  let c0_i32_306 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_305 : BitVec 32 := 1#32
  let v386 : BitVec 32 := Scalar.muli v24 c1_i32_305
  let v387 : BitVec 32 := Scalar.addi c0_i32_306 v386
  v387.toNat
def k0_dev14 (d0 : Dev nD) : Nat :=
  let c0_i32_314 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_313 : BitVec 32 := 1#32
  let v388 : BitVec 32 := Scalar.muli v13 c1_i32_313
  let v389 : BitVec 32 := Scalar.addi c0_i32_314 v388
  v389.toNat
def k0_dev15 (d0 : Dev nD) : Nat :=
  let c0_i32_359 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_358 : BitVec 32 := 1#32
  let v438 : BitVec 32 := Scalar.muli v13 c1_i32_358
  let v439 : BitVec 32 := Scalar.addi c0_i32_359 v438
  v439.toNat
def k0_dev16 (d0 : Dev nD) : Nat :=
  let c0_i32_367 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_366 : BitVec 32 := 1#32
  let v440 : BitVec 32 := Scalar.muli v24 c1_i32_366
  let v441 : BitVec 32 := Scalar.addi c0_i32_367 v440
  v441.toNat
def k0_dev17 (d0 : Dev nD) : Nat :=
  let c0_i32_412 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_411 : BitVec 32 := 1#32
  let v490 : BitVec 32 := Scalar.muli v24 c1_i32_411
  let v491 : BitVec 32 := Scalar.addi c0_i32_412 v490
  v491.toNat
def k0_dev18 (d0 : Dev nD) : Nat :=
  let c0_i32_420 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_419 : BitVec 32 := 1#32
  let v492 : BitVec 32 := Scalar.muli v13 c1_i32_419
  let v493 : BitVec 32 := Scalar.addi c0_i32_420 v492
  v493.toNat
def k0_dev19 (d0 : Dev nD) : Nat :=
  let c0_i32_465 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_464 : BitVec 32 := 1#32
  let v542 : BitVec 32 := Scalar.muli v13 c1_i32_464
  let v543 : BitVec 32 := Scalar.addi c0_i32_465 v542
  v543.toNat
def k0_dev20 (d0 : Dev nD) : Nat :=
  let c0_i32_473 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_472 : BitVec 32 := 1#32
  let v544 : BitVec 32 := Scalar.muli v24 c1_i32_472
  let v545 : BitVec 32 := Scalar.addi c0_i32_473 v544
  v545.toNat
def k0_dev21 (d0 : Dev nD) : Nat :=
  let c0_i32_518 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_517 : BitVec 32 := 1#32
  let v594 : BitVec 32 := Scalar.muli v24 c1_i32_517
  let v595 : BitVec 32 := Scalar.addi c0_i32_518 v594
  v595.toNat
def k0_dev22 (d0 : Dev nD) : Nat :=
  let c0_i32_526 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_525 : BitVec 32 := 1#32
  let v596 : BitVec 32 := Scalar.muli v13 c1_i32_525
  let v597 : BitVec 32 := Scalar.addi c0_i32_526 v596
  v597.toNat
def k0_dev23 (d0 : Dev nD) : Nat :=
  let c0_i32_571 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_570 : BitVec 32 := 1#32
  let v646 : BitVec 32 := Scalar.muli v13 c1_i32_570
  let v647 : BitVec 32 := Scalar.addi c0_i32_571 v646
  v647.toNat
def k0_dev24 (d0 : Dev nD) : Nat :=
  let c0_i32_579 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_578 : BitVec 32 := 1#32
  let v648 : BitVec 32 := Scalar.muli v24 c1_i32_578
  let v649 : BitVec 32 := Scalar.addi c0_i32_579 v648
  v649.toNat
def k0_dev25 (d0 : Dev nD) : Nat :=
  let c0_i32_624 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_623 : BitVec 32 := 1#32
  let v698 : BitVec 32 := Scalar.muli v24 c1_i32_623
  let v699 : BitVec 32 := Scalar.addi c0_i32_624 v698
  v699.toNat
def k0_dev26 (d0 : Dev nD) : Nat :=
  let c0_i32_632 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_631 : BitVec 32 := 1#32
  let v700 : BitVec 32 := Scalar.muli v13 c1_i32_631
  let v701 : BitVec 32 := Scalar.addi c0_i32_632 v700
  v701.toNat
def k0_dev27 (d0 : Dev nD) : Nat :=
  let c0_i32_677 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_676 : BitVec 32 := 1#32
  let v750 : BitVec 32 := Scalar.muli v13 c1_i32_676
  let v751 : BitVec 32 := Scalar.addi c0_i32_677 v750
  v751.toNat
def k0_dev28 (d0 : Dev nD) : Nat :=
  let c0_i32_685 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_684 : BitVec 32 := 1#32
  let v752 : BitVec 32 := Scalar.muli v24 c1_i32_684
  let v753 : BitVec 32 := Scalar.addi c0_i32_685 v752
  v753.toNat
def k0_dev29 (d0 : Dev nD) : Nat :=
  let c0_i32_730 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_729 : BitVec 32 := 1#32
  let v802 : BitVec 32 := Scalar.muli v24 c1_i32_729
  let v803 : BitVec 32 := Scalar.addi c0_i32_730 v802
  v803.toNat
def k0_dev30 (d0 : Dev nD) : Nat :=
  let c0_i32_738 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_737 : BitVec 32 := 1#32
  let v804 : BitVec 32 := Scalar.muli v13 c1_i32_737
  let v805 : BitVec 32 := Scalar.addi c0_i32_738 v804
  v805.toNat
def k0_dev31 (d0 : Dev nD) : Nat :=
  let c0_i32_783 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_782 : BitVec 32 := 1#32
  let v854 : BitVec 32 := Scalar.muli v13 c1_i32_782
  let v855 : BitVec 32 := Scalar.addi c0_i32_783 v854
  v855.toNat
def k0_dev32 (d0 : Dev nD) : Nat :=
  let c0_i32_791 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_790 : BitVec 32 := 1#32
  let v856 : BitVec 32 := Scalar.muli v24 c1_i32_790
  let v857 : BitVec 32 := Scalar.addi c0_i32_791 v856
  v857.toNat
def k0_dev33 (d0 : Dev nD) : Nat :=
  let c0_i32_836 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_835 : BitVec 32 := 1#32
  let v906 : BitVec 32 := Scalar.muli v24 c1_i32_835
  let v907 : BitVec 32 := Scalar.addi c0_i32_836 v906
  v907.toNat
def k0_dev34 (d0 : Dev nD) : Nat :=
  let c0_i32_844 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_843 : BitVec 32 := 1#32
  let v908 : BitVec 32 := Scalar.muli v13 c1_i32_843
  let v909 : BitVec 32 := Scalar.addi c0_i32_844 v908
  v909.toNat
def k0_dev35 (d0 : Dev nD) : Nat :=
  let c0_i32_889 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_888 : BitVec 32 := 1#32
  let v958 : BitVec 32 := Scalar.muli v13 c1_i32_888
  let v959 : BitVec 32 := Scalar.addi c0_i32_889 v958
  v959.toNat
def k0_dev36 (d0 : Dev nD) : Nat :=
  let c0_i32_897 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_896 : BitVec 32 := 1#32
  let v960 : BitVec 32 := Scalar.muli v24 c1_i32_896
  let v961 : BitVec 32 := Scalar.addi c0_i32_897 v960
  v961.toNat
def k0_dev37 (d0 : Dev nD) : Nat :=
  let c0_i32_942 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_941 : BitVec 32 := 1#32
  let v1010 : BitVec 32 := Scalar.muli v24 c1_i32_941
  let v1011 : BitVec 32 := Scalar.addi c0_i32_942 v1010
  v1011.toNat
def k0_dev38 (d0 : Dev nD) : Nat :=
  let c0_i32_950 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_949 : BitVec 32 := 1#32
  let v1012 : BitVec 32 := Scalar.muli v13 c1_i32_949
  let v1013 : BitVec 32 := Scalar.addi c0_i32_950 v1012
  v1013.toNat
def k0_dev39 (d0 : Dev nD) : Nat :=
  let c0_i32_995 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_994 : BitVec 32 := 1#32
  let v1062 : BitVec 32 := Scalar.muli v13 c1_i32_994
  let v1063 : BitVec 32 := Scalar.addi c0_i32_995 v1062
  v1063.toNat
def k0_dev40 (d0 : Dev nD) : Nat :=
  let c0_i32_1003 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1002 : BitVec 32 := 1#32
  let v1064 : BitVec 32 := Scalar.muli v24 c1_i32_1002
  let v1065 : BitVec 32 := Scalar.addi c0_i32_1003 v1064
  v1065.toNat
def k0_dev41 (d0 : Dev nD) : Nat :=
  let c0_i32_1048 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1047 : BitVec 32 := 1#32
  let v1114 : BitVec 32 := Scalar.muli v24 c1_i32_1047
  let v1115 : BitVec 32 := Scalar.addi c0_i32_1048 v1114
  v1115.toNat
def k0_dev42 (d0 : Dev nD) : Nat :=
  let c0_i32_1056 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1055 : BitVec 32 := 1#32
  let v1116 : BitVec 32 := Scalar.muli v13 c1_i32_1055
  let v1117 : BitVec 32 := Scalar.addi c0_i32_1056 v1116
  v1117.toNat
def k0_dev43 (d0 : Dev nD) : Nat :=
  let c0_i32_1101 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1100 : BitVec 32 := 1#32
  let v1166 : BitVec 32 := Scalar.muli v13 c1_i32_1100
  let v1167 : BitVec 32 := Scalar.addi c0_i32_1101 v1166
  v1167.toNat
def k0_dev44 (d0 : Dev nD) : Nat :=
  let c0_i32_1109 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1108 : BitVec 32 := 1#32
  let v1168 : BitVec 32 := Scalar.muli v24 c1_i32_1108
  let v1169 : BitVec 32 := Scalar.addi c0_i32_1109 v1168
  v1169.toNat
def k0_dev45 (d0 : Dev nD) : Nat :=
  let c0_i32_1154 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1153 : BitVec 32 := 1#32
  let v1218 : BitVec 32 := Scalar.muli v24 c1_i32_1153
  let v1219 : BitVec 32 := Scalar.addi c0_i32_1154 v1218
  v1219.toNat
def k0_dev46 (d0 : Dev nD) : Nat :=
  let c0_i32_1162 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1161 : BitVec 32 := 1#32
  let v1220 : BitVec 32 := Scalar.muli v13 c1_i32_1161
  let v1221 : BitVec 32 := Scalar.addi c0_i32_1162 v1220
  v1221.toNat
def k0_dev47 (d0 : Dev nD) : Nat :=
  let c0_i32_1207 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1206 : BitVec 32 := 1#32
  let v1270 : BitVec 32 := Scalar.muli v13 c1_i32_1206
  let v1271 : BitVec 32 := Scalar.addi c0_i32_1207 v1270
  v1271.toNat
def k0_dev48 (d0 : Dev nD) : Nat :=
  let c0_i32_1215 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1214 : BitVec 32 := 1#32
  let v1272 : BitVec 32 := Scalar.muli v24 c1_i32_1214
  let v1273 : BitVec 32 := Scalar.addi c0_i32_1215 v1272
  v1273.toNat
def k0_dev49 (d0 : Dev nD) : Nat :=
  let c0_i32_1260 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1259 : BitVec 32 := 1#32
  let v1322 : BitVec 32 := Scalar.muli v24 c1_i32_1259
  let v1323 : BitVec 32 := Scalar.addi c0_i32_1260 v1322
  v1323.toNat
def k0_dev50 (d0 : Dev nD) : Nat :=
  let c0_i32_1268 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1267 : BitVec 32 := 1#32
  let v1324 : BitVec 32 := Scalar.muli v13 c1_i32_1267
  let v1325 : BitVec 32 := Scalar.addi c0_i32_1268 v1324
  v1325.toNat
def k0_dev51 (d0 : Dev nD) : Nat :=
  let c0_i32_1313 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1312 : BitVec 32 := 1#32
  let v1374 : BitVec 32 := Scalar.muli v13 c1_i32_1312
  let v1375 : BitVec 32 := Scalar.addi c0_i32_1313 v1374
  v1375.toNat
def k0_dev52 (d0 : Dev nD) : Nat :=
  let c0_i32_1321 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1320 : BitVec 32 := 1#32
  let v1376 : BitVec 32 := Scalar.muli v24 c1_i32_1320
  let v1377 : BitVec 32 := Scalar.addi c0_i32_1321 v1376
  v1377.toNat
def k0_dev53 (d0 : Dev nD) : Nat :=
  let c0_i32_1366 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1365 : BitVec 32 := 1#32
  let v1426 : BitVec 32 := Scalar.muli v24 c1_i32_1365
  let v1427 : BitVec 32 := Scalar.addi c0_i32_1366 v1426
  v1427.toNat
def k0_dev54 (d0 : Dev nD) : Nat :=
  let c0_i32_1374 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1373 : BitVec 32 := 1#32
  let v1428 : BitVec 32 := Scalar.muli v13 c1_i32_1373
  let v1429 : BitVec 32 := Scalar.addi c0_i32_1374 v1428
  v1429.toNat
def k0_dev55 (d0 : Dev nD) : Nat :=
  let c0_i32_1419 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1418 : BitVec 32 := 1#32
  let v1478 : BitVec 32 := Scalar.muli v13 c1_i32_1418
  let v1479 : BitVec 32 := Scalar.addi c0_i32_1419 v1478
  v1479.toNat
def k0_dev56 (d0 : Dev nD) : Nat :=
  let c0_i32_1427 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1426 : BitVec 32 := 1#32
  let v1480 : BitVec 32 := Scalar.muli v24 c1_i32_1426
  let v1481 : BitVec 32 := Scalar.addi c0_i32_1427 v1480
  v1481.toNat
def k0_dev57 (d0 : Dev nD) : Nat :=
  let c0_i32_1472 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1471 : BitVec 32 := 1#32
  let v1530 : BitVec 32 := Scalar.muli v24 c1_i32_1471
  let v1531 : BitVec 32 := Scalar.addi c0_i32_1472 v1530
  v1531.toNat
def k0_dev58 (d0 : Dev nD) : Nat :=
  let c0_i32_1480 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1479 : BitVec 32 := 1#32
  let v1532 : BitVec 32 := Scalar.muli v13 c1_i32_1479
  let v1533 : BitVec 32 := Scalar.addi c0_i32_1480 v1532
  v1533.toNat
def k0_dev59 (d0 : Dev nD) : Nat :=
  let c0_i32_1524 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1523 : BitVec 32 := 1#32
  let v1582 : BitVec 32 := Scalar.muli v13 c1_i32_1523
  let v1583 : BitVec 32 := Scalar.addi c0_i32_1524 v1582
  v1583.toNat
def k0_dev60 (d0 : Dev nD) : Nat :=
  let c0_i32_1532 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1531 : BitVec 32 := 1#32
  let v1584 : BitVec 32 := Scalar.muli v24 c1_i32_1531
  let v1585 : BitVec 32 := Scalar.addi c0_i32_1532 v1584
  v1585.toNat
def k0_dev61 (d0 : Dev nD) : Nat :=
  let c0_i32_1577 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1576 : BitVec 32 := 1#32
  let v1634 : BitVec 32 := Scalar.muli v24 c1_i32_1576
  let v1635 : BitVec 32 := Scalar.addi c0_i32_1577 v1634
  v1635.toNat
def k0_dev62 (d0 : Dev nD) : Nat :=
  let c0_i32_1585 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1584 : BitVec 32 := 1#32
  let v1636 : BitVec 32 := Scalar.muli v13 c1_i32_1584
  let v1637 : BitVec 32 := Scalar.addi c0_i32_1585 v1636
  v1637.toNat
def k0_dev63 (d0 : Dev nD) : Nat :=
  let c0_i32_1630 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1629 : BitVec 32 := 1#32
  let v1686 : BitVec 32 := Scalar.muli v13 c1_i32_1629
  let v1687 : BitVec 32 := Scalar.addi c0_i32_1630 v1686
  v1687.toNat
def k0_dev64 (d0 : Dev nD) : Nat :=
  let c0_i32_1638 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1637 : BitVec 32 := 1#32
  let v1688 : BitVec 32 := Scalar.muli v24 c1_i32_1637
  let v1689 : BitVec 32 := Scalar.addi c0_i32_1638 v1688
  v1689.toNat
def k0_dev65 (d0 : Dev nD) : Nat :=
  let c0_i32_1683 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1682 : BitVec 32 := 1#32
  let v1738 : BitVec 32 := Scalar.muli v24 c1_i32_1682
  let v1739 : BitVec 32 := Scalar.addi c0_i32_1683 v1738
  v1739.toNat
def k0_dev66 (d0 : Dev nD) : Nat :=
  let c0_i32_1691 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1690 : BitVec 32 := 1#32
  let v1740 : BitVec 32 := Scalar.muli v13 c1_i32_1690
  let v1741 : BitVec 32 := Scalar.addi c0_i32_1691 v1740
  v1741.toNat
def k0_dev67 (d0 : Dev nD) : Nat :=
  let c0_i32_1736 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1735 : BitVec 32 := 1#32
  let v1790 : BitVec 32 := Scalar.muli v13 c1_i32_1735
  let v1791 : BitVec 32 := Scalar.addi c0_i32_1736 v1790
  v1791.toNat
def k0_dev68 (d0 : Dev nD) : Nat :=
  let c0_i32_1744 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1743 : BitVec 32 := 1#32
  let v1792 : BitVec 32 := Scalar.muli v24 c1_i32_1743
  let v1793 : BitVec 32 := Scalar.addi c0_i32_1744 v1792
  v1793.toNat
def k0_dev69 (d0 : Dev nD) : Nat :=
  let c0_i32_1789 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1788 : BitVec 32 := 1#32
  let v1842 : BitVec 32 := Scalar.muli v24 c1_i32_1788
  let v1843 : BitVec 32 := Scalar.addi c0_i32_1789 v1842
  v1843.toNat
def k0_dev70 (d0 : Dev nD) : Nat :=
  let c0_i32_1797 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1796 : BitVec 32 := 1#32
  let v1844 : BitVec 32 := Scalar.muli v13 c1_i32_1796
  let v1845 : BitVec 32 := Scalar.addi c0_i32_1797 v1844
  v1845.toNat
def k0_dev71 (d0 : Dev nD) : Nat :=
  let c0_i32_1842 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1841 : BitVec 32 := 1#32
  let v1894 : BitVec 32 := Scalar.muli v13 c1_i32_1841
  let v1895 : BitVec 32 := Scalar.addi c0_i32_1842 v1894
  v1895.toNat
def k0_dev72 (d0 : Dev nD) : Nat :=
  let c0_i32_1850 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1849 : BitVec 32 := 1#32
  let v1896 : BitVec 32 := Scalar.muli v24 c1_i32_1849
  let v1897 : BitVec 32 := Scalar.addi c0_i32_1850 v1896
  v1897.toNat
def k0_dev73 (d0 : Dev nD) : Nat :=
  let c0_i32_1895 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1894 : BitVec 32 := 1#32
  let v1946 : BitVec 32 := Scalar.muli v24 c1_i32_1894
  let v1947 : BitVec 32 := Scalar.addi c0_i32_1895 v1946
  v1947.toNat
def k0_dev74 (d0 : Dev nD) : Nat :=
  let c0_i32_1903 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1902 : BitVec 32 := 1#32
  let v1948 : BitVec 32 := Scalar.muli v13 c1_i32_1902
  let v1949 : BitVec 32 := Scalar.addi c0_i32_1903 v1948
  v1949.toNat
def k0_dev75 (d0 : Dev nD) : Nat :=
  let c0_i32_1947 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1946 : BitVec 32 := 1#32
  let v1998 : BitVec 32 := Scalar.muli v13 c1_i32_1946
  let v1999 : BitVec 32 := Scalar.addi c0_i32_1947 v1998
  v1999.toNat
def k0_dev76 (d0 : Dev nD) : Nat :=
  let c0_i32_1955 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1954 : BitVec 32 := 1#32
  let v2000 : BitVec 32 := Scalar.muli v24 c1_i32_1954
  let v2001 : BitVec 32 := Scalar.addi c0_i32_1955 v2000
  v2001.toNat
def k0_dev77 (d0 : Dev nD) : Nat :=
  let c0_i32_2000 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1999 : BitVec 32 := 1#32
  let v2050 : BitVec 32 := Scalar.muli v24 c1_i32_1999
  let v2051 : BitVec 32 := Scalar.addi c0_i32_2000 v2050
  v2051.toNat
def k0_dev78 (d0 : Dev nD) : Nat :=
  let c0_i32_2008 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2007 : BitVec 32 := 1#32
  let v2052 : BitVec 32 := Scalar.muli v13 c1_i32_2007
  let v2053 : BitVec 32 := Scalar.addi c0_i32_2008 v2052
  v2053.toNat
def k0_dev79 (d0 : Dev nD) : Nat :=
  let c0_i32_2053 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2052 : BitVec 32 := 1#32
  let v2102 : BitVec 32 := Scalar.muli v13 c1_i32_2052
  let v2103 : BitVec 32 := Scalar.addi c0_i32_2053 v2102
  v2103.toNat
def k0_dev80 (d0 : Dev nD) : Nat :=
  let c0_i32_2061 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2060 : BitVec 32 := 1#32
  let v2104 : BitVec 32 := Scalar.muli v24 c1_i32_2060
  let v2105 : BitVec 32 := Scalar.addi c0_i32_2061 v2104
  v2105.toNat
def k0_dev81 (d0 : Dev nD) : Nat :=
  let c0_i32_2106 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2105 : BitVec 32 := 1#32
  let v2154 : BitVec 32 := Scalar.muli v24 c1_i32_2105
  let v2155 : BitVec 32 := Scalar.addi c0_i32_2106 v2154
  v2155.toNat
def k0_dev82 (d0 : Dev nD) : Nat :=
  let c0_i32_2114 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2113 : BitVec 32 := 1#32
  let v2156 : BitVec 32 := Scalar.muli v13 c1_i32_2113
  let v2157 : BitVec 32 := Scalar.addi c0_i32_2114 v2156
  v2157.toNat
def k0_dev83 (d0 : Dev nD) : Nat :=
  let c0_i32_2159 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2158 : BitVec 32 := 1#32
  let v2206 : BitVec 32 := Scalar.muli v13 c1_i32_2158
  let v2207 : BitVec 32 := Scalar.addi c0_i32_2159 v2206
  v2207.toNat
def k0_dev84 (d0 : Dev nD) : Nat :=
  let c0_i32_2167 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2166 : BitVec 32 := 1#32
  let v2208 : BitVec 32 := Scalar.muli v24 c1_i32_2166
  let v2209 : BitVec 32 := Scalar.addi c0_i32_2167 v2208
  v2209.toNat
def k0_dev85 (d0 : Dev nD) : Nat :=
  let c0_i32_2212 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2211 : BitVec 32 := 1#32
  let v2258 : BitVec 32 := Scalar.muli v24 c1_i32_2211
  let v2259 : BitVec 32 := Scalar.addi c0_i32_2212 v2258
  v2259.toNat
def k0_dev86 (d0 : Dev nD) : Nat :=
  let c0_i32_2220 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2219 : BitVec 32 := 1#32
  let v2260 : BitVec 32 := Scalar.muli v13 c1_i32_2219
  let v2261 : BitVec 32 := Scalar.addi c0_i32_2220 v2260
  v2261.toNat
def k0_dev87 (d0 : Dev nD) : Nat :=
  let c0_i32_2265 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2264 : BitVec 32 := 1#32
  let v2310 : BitVec 32 := Scalar.muli v13 c1_i32_2264
  let v2311 : BitVec 32 := Scalar.addi c0_i32_2265 v2310
  v2311.toNat
def k0_dev88 (d0 : Dev nD) : Nat :=
  let c0_i32_2273 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2272 : BitVec 32 := 1#32
  let v2312 : BitVec 32 := Scalar.muli v24 c1_i32_2272
  let v2313 : BitVec 32 := Scalar.addi c0_i32_2273 v2312
  v2313.toNat
def k0_dev89 (d0 : Dev nD) : Nat :=
  let c0_i32_2318 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2317 : BitVec 32 := 1#32
  let v2362 : BitVec 32 := Scalar.muli v24 c1_i32_2317
  let v2363 : BitVec 32 := Scalar.addi c0_i32_2318 v2362
  v2363.toNat
def k0_dev90 (d0 : Dev nD) : Nat :=
  let c0_i32_2326 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2325 : BitVec 32 := 1#32
  let v2364 : BitVec 32 := Scalar.muli v13 c1_i32_2325
  let v2365 : BitVec 32 := Scalar.addi c0_i32_2326 v2364
  v2365.toNat
def k0_dev91 (d0 : Dev nD) : Nat :=
  let c0_i32_2370 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2369 : BitVec 32 := 1#32
  let v2414 : BitVec 32 := Scalar.muli v13 c1_i32_2369
  let v2415 : BitVec 32 := Scalar.addi c0_i32_2370 v2414
  v2415.toNat
def k0_dev92 (d0 : Dev nD) : Nat :=
  let c0_i32_2378 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2377 : BitVec 32 := 1#32
  let v2416 : BitVec 32 := Scalar.muli v24 c1_i32_2377
  let v2417 : BitVec 32 := Scalar.addi c0_i32_2378 v2416
  v2417.toNat
def k0_dev93 (d0 : Dev nD) : Nat :=
  let c0_i32_2423 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2422 : BitVec 32 := 1#32
  let v2466 : BitVec 32 := Scalar.muli v24 c1_i32_2422
  let v2467 : BitVec 32 := Scalar.addi c0_i32_2423 v2466
  v2467.toNat
def k0_dev94 (d0 : Dev nD) : Nat :=
  let c0_i32_2431 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2430 : BitVec 32 := 1#32
  let v2468 : BitVec 32 := Scalar.muli v13 c1_i32_2430
  let v2469 : BitVec 32 := Scalar.addi c0_i32_2431 v2468
  v2469.toNat
def k0_dev95 (d0 : Dev nD) : Nat :=
  let c0_i32_2476 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2475 : BitVec 32 := 1#32
  let v2518 : BitVec 32 := Scalar.muli v13 c1_i32_2475
  let v2519 : BitVec 32 := Scalar.addi c0_i32_2476 v2518
  v2519.toNat
def k0_dev96 (d0 : Dev nD) : Nat :=
  let c0_i32_2484 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2483 : BitVec 32 := 1#32
  let v2520 : BitVec 32 := Scalar.muli v24 c1_i32_2483
  let v2521 : BitVec 32 := Scalar.addi c0_i32_2484 v2520
  v2521.toNat
def k0_dev97 (d0 : Dev nD) : Nat :=
  let c0_i32_2529 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2528 : BitVec 32 := 1#32
  let v2570 : BitVec 32 := Scalar.muli v24 c1_i32_2528
  let v2571 : BitVec 32 := Scalar.addi c0_i32_2529 v2570
  v2571.toNat
def k0_dev98 (d0 : Dev nD) : Nat :=
  let c0_i32_2537 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2536 : BitVec 32 := 1#32
  let v2572 : BitVec 32 := Scalar.muli v13 c1_i32_2536
  let v2573 : BitVec 32 := Scalar.addi c0_i32_2537 v2572
  v2573.toNat
def k0_dev99 (d0 : Dev nD) : Nat :=
  let c0_i32_2582 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2581 : BitVec 32 := 1#32
  let v2622 : BitVec 32 := Scalar.muli v13 c1_i32_2581
  let v2623 : BitVec 32 := Scalar.addi c0_i32_2582 v2622
  v2623.toNat
def k0_dev100 (d0 : Dev nD) : Nat :=
  let c0_i32_2590 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2589 : BitVec 32 := 1#32
  let v2624 : BitVec 32 := Scalar.muli v24 c1_i32_2589
  let v2625 : BitVec 32 := Scalar.addi c0_i32_2590 v2624
  v2625.toNat
def k0_dev101 (d0 : Dev nD) : Nat :=
  let c0_i32_2635 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2634 : BitVec 32 := 1#32
  let v2674 : BitVec 32 := Scalar.muli v24 c1_i32_2634
  let v2675 : BitVec 32 := Scalar.addi c0_i32_2635 v2674
  v2675.toNat
def k0_dev102 (d0 : Dev nD) : Nat :=
  let c0_i32_2643 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2642 : BitVec 32 := 1#32
  let v2676 : BitVec 32 := Scalar.muli v13 c1_i32_2642
  let v2677 : BitVec 32 := Scalar.addi c0_i32_2643 v2676
  v2677.toNat
def k0_dev103 (d0 : Dev nD) : Nat :=
  let c0_i32_2688 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2687 : BitVec 32 := 1#32
  let v2726 : BitVec 32 := Scalar.muli v13 c1_i32_2687
  let v2727 : BitVec 32 := Scalar.addi c0_i32_2688 v2726
  v2727.toNat
def k0_dev104 (d0 : Dev nD) : Nat :=
  let c0_i32_2696 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2695 : BitVec 32 := 1#32
  let v2728 : BitVec 32 := Scalar.muli v24 c1_i32_2695
  let v2729 : BitVec 32 := Scalar.addi c0_i32_2696 v2728
  v2729.toNat
def k0_dev105 (d0 : Dev nD) : Nat :=
  let c0_i32_2741 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2740 : BitVec 32 := 1#32
  let v2778 : BitVec 32 := Scalar.muli v24 c1_i32_2740
  let v2779 : BitVec 32 := Scalar.addi c0_i32_2741 v2778
  v2779.toNat
def k0_dev106 (d0 : Dev nD) : Nat :=
  let c0_i32_2749 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2748 : BitVec 32 := 1#32
  let v2780 : BitVec 32 := Scalar.muli v13 c1_i32_2748
  let v2781 : BitVec 32 := Scalar.addi c0_i32_2749 v2780
  v2781.toNat
abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x8192, .bf16⟩
  | .hbm, ⟨2, _⟩ => ⟨S4096x4096, .f32⟩
  | .hbm, ⟨3, _⟩ => ⟨S4096x8192, .f32⟩
  | .hbm, ⟨4, _⟩ => ⟨S4096x8192, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4096x8192, .f32⟩
  | .hbm, ⟨9, _⟩ => ⟨S4096x8192, .f32⟩
  | .hbm, ⟨10, _⟩ => ⟨S_, .f32⟩
  | .hbm, ⟨11, _⟩ => ⟨S4096x8192, .f32⟩
  | .hbm, ⟨12, _⟩ => ⟨S4096x8192, .f32⟩
  | .hbm, ⟨13, _⟩ => ⟨S4096x8192, .f32⟩
  | .hbm, ⟨14, _⟩ => ⟨S4096x8192, .f32⟩
  | .hbm, ⟨15, _⟩ => ⟨S_, .f32⟩
  | .hbm, ⟨16, _⟩ => ⟨S4096x8192, .f32⟩
  | .hbm, ⟨17, _⟩ => ⟨S4096x8192, .f32⟩
  | .hbm, ⟨18, _⟩ => ⟨S4096x8192, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩

abbrev nD : Nat := 1
abbrev τ : Topo := Topo.v7x

variable {F : FTy → Type} [FloatOps F]
-- ==== Proof.Phases.lean ====
/-
# The kernel's body as a sequence of phases

The printed body is one straight-line program. This module writes it as 64 phases, numbered by the ring step
`s = p / 8`, the strip pair `r = p / 2 % 4` and the direction `δ = p % 2` (0: data travels to the next device, 1: to the
previous one), between an opening handshake on the barrier semaphore and a closing sequence of waits; and states that the
printed body IS this program.
-/
module

public import proofs.«01_k».proof.Proof.Gen.KernelIdeal.Skeleton
public import Idealize.ShloMosaic.Lib.Tactic

@[expose] public section

noncomputable section

namespace Cert.KernelIdeal.Ring

open Cert.KernelIdeal Cert.KernelIdeal.Gen
open Idealize.ShloMosaic Idealize.SL.Sem

variable {F : FTy → Type} [FloatOps F]

/-! ## The buffers and semaphores -/

/-- The device's blocks of the two operands, as staged into VMEM; the result array. -/
abbrev xM : Memref sig .tc .vmem S4096x512 .bf16 := Memref.whole cc0_stg0_0
/-- The device's block of `w`, as staged. -/
abbrev wM : Memref sig .tc .vmem S512x8192 .bf16 := Memref.whole cc0_stg1_0
/-- The result array. -/
abbrev oM : Memref sig .tc .hbm S512x8192 .f32 := Memref.whole main_v1
/-- The staging buffer of the finished strips, one slot per direction. -/
abbrev gM : Memref sig .tc .vmem S2x512x1024 .f32 := Memref.whole cc0_scratch4

/-- The buffer a device sends from in direction `δ`, -/
def sbRef (δ : Fin 2) : Ref sig .tc := match δ with | 0 => cc0_scratch0 | 1 => cc0_scratch2
/-- and the one it receives into. -/
def rbRef (δ : Fin 2) : Ref sig .tc := match δ with | 0 => cc0_scratch1 | 1 => cc0_scratch3

/-- The send buffer of direction `δ`: four slots, one per strip. -/
def sbM (δ : Fin 2) : Memref sig .tc .vmem S4x512x1024 .bf16 := match δ with | 0 => Memref.whole cc0_scratch0 | 1 => Memref.whole cc0_scratch2
/-- The receive buffer of direction `δ`. -/
def rbM (δ : Fin 2) : Memref sig .tc .vmem S4x512x1024 .bf16 := match δ with | 0 => Memref.whole cc0_scratch1 | 1 => Memref.whole cc0_scratch3

/-- Each send buffer is a whole buffer. -/
theorem sbM_whole (δ : Fin 2) : (sbM δ).IsWhole := match δ with | 0 => Memref.isWhole_whole _ | 1 => Memref.isWhole_whole _
/-- Each receive buffer is a whole buffer. -/
theorem rbM_whole (δ : Fin 2) : (rbM δ).IsWhole := match δ with | 0 => Memref.isWhole_whole _ | 1 => Memref.isWhole_whole _

/-- The send semaphores of direction `δ`, one per strip. -/
def ssA (δ : Fin 2) : DmaSems sig S4 := match δ with | 0 => cc0_scratch5 | 1 => cc0_scratch7
/-- The landing semaphores of direction `δ`, one per strip. -/
def rsA (δ : Fin 2) : DmaSems sig S4 := match δ with | 0 => cc0_scratch6 | 1 => cc0_scratch8
/-- The credit semaphore of direction `δ`. -/
def crA (δ : Fin 2) : Sems sig S_ := match δ with | 0 => cc0_scratch10 | 1 => cc0_scratch11

/-- Strip `r`'s semaphore lies within the four. -/
theorem sem_inb (r : Fin 4) : ∀ a, (![r.val] : Fin 1 → ℕ) a + S1.size a ≤ S4.size a := by revert r; decide
/-- Direction `δ`'s copy semaphore lies within the two. -/
theorem osem_inb (δ : Fin 2) : ∀ a, (![δ.val] : Fin 1 → ℕ) a + S1.size a ≤ S2.size a := by revert δ; decide
/-- Slot `r` lies within a four-slot buffer. -/
theorem slot_inb (r : Fin 4) : ∀ a, (![r.val, 0, 0] : Fin 3 → ℕ) a + S1x512x1024.size a ≤ S4x512x1024.size a := by revert r; decide
/-- Slot `δ` lies within the staging buffer. -/
theorem stg_inb (δ : Fin 2) : ∀ a, (![δ.val, 0, 0] : Fin 3 → ℕ) a + S1x512x1024.size a ≤ S2x512x1024.size a := by revert δ; decide
/-- Strip `4 δ + r` lies within the 8192 columns. -/
theorem strip_inb (δ : Fin 2) (r : Fin 4) : ∀ a, (![0, 1024 * (4 * δ.val + r.val)] : Fin 2 → ℕ) a + S512x1024.size a ≤ S512x8192.size a := by revert δ r; decide

/-- The semaphores of strip `r` in direction `δ`: of the sends, of the landings; of direction `δ`: of the copies of
    finished strips, of the credits; and the barrier. -/
def sendS (δ : Fin 2) (r : Fin 4) : DmaSem sig := (((ssA δ).slice (Rect.unit (s := S4) ![r.val] S1.size (sem_inb r))).squeeze S_ squeezes_S1_S_).sem
/-- The landing semaphore of strip `r` in direction `δ`. -/
def recvS (δ : Fin 2) (r : Fin 4) : DmaSem sig := (((rsA δ).slice (Rect.unit (s := S4) ![r.val] S1.size (sem_inb r))).squeeze S_ squeezes_S1_S_).sem
/-- The semaphore of direction `δ`'s copies to the result. -/
def outS (δ : Fin 2) : DmaSem sig := ((cc0_scratch9.slice (Rect.unit (s := S2) ![δ.val] S1.size (osem_inb δ))).squeeze S_ squeezes_S1_S_).sem
/-- The credit semaphore of direction `δ`. -/
def credS (δ : Fin 2) : Sem sig := (crA δ).sem
/-- The barrier semaphore. -/
def barS : Sem sig := (SemArray.scalar (sig.barrier 0 rfl) : Sems sig S_).sem

/-- The rectangle of slot `r` in a four-slot buffer, of slot `δ` in the staging buffer, of strip `4 δ + r` in a row of strips. -/
abbrev slotR (r : Fin 4) : Rect S4x512x1024 := Rect.unit (s := S4x512x1024) ![r.val, 0, 0] S1x512x1024.size (slot_inb r)
/-- The rectangle of slot `δ` in the staging buffer. -/
abbrev stgR (δ : Fin 2) : Rect S2x512x1024 := Rect.unit (s := S2x512x1024) ![δ.val, 0, 0] S1x512x1024.size (stg_inb δ)
/-- The rectangle of strip `4 δ + r` in 512 rows of 8192 columns. -/
abbrev stripR (δ : Fin 2) (r : Fin 4) : Rect S512x8192 := Rect.unit (s := S512x8192) ![0, 1024 * (4 * δ.val + r.val)] S512x1024.size (strip_inb δ r)

/-- Row offset of the block of `x` used at step `s`. -/
def xOff (δ : Fin 2) (d0 : Dev nD) (s : Fin 8) : Fin 2 → ℕ := match δ with
  | 0 => k0_off1 d0 (BitVec.ofNat 32 s.val)
  | 1 => k0_off2 d0 (BitVec.ofNat 32 s.val)
/-- That block lies within `x`. -/
theorem xOff_inb (δ : Fin 2) (d0 : Dev nD) (s : Fin 8) : ∀ a, xOff δ d0 s a + S512x512.size a ≤ S4096x512.size a := match δ with
  | 0 => k0_off1_inb d0 s
  | 1 => k0_off2_inb d0 s
/-- The rectangle of that block. -/
abbrev xR (δ : Fin 2) (d0 : Dev nD) (s : Fin 8) : Rect S4096x512 := Rect.unit (s := S4096x512) (xOff δ d0 s) S512x512.size (xOff_inb δ d0 s)

/-- Slot `r` of the send and receive buffers, slot `δ` of the staging buffer, as 512 × 1024 blocks; strip `4 δ + r` of the result. -/
def sbS (δ : Fin 2) (r : Fin 4) : Memref sig .tc .vmem S512x1024 .bf16 := ((sbM δ).slice (slotR r) (fun _ => rfl)).squeeze S512x1024 squeezes_S1x512x1024_S512x1024
/-- Slot `r` of the receive buffer, as a 512 × 1024 block. -/
def rbS (δ : Fin 2) (r : Fin 4) : Memref sig .tc .vmem S512x1024 .bf16 := ((rbM δ).slice (slotR r) (fun _ => rfl)).squeeze S512x1024 squeezes_S1x512x1024_S512x1024
/-- Slot `δ` of the staging buffer, as a 512 × 1024 block. -/
def gS (δ : Fin 2) : Memref sig .tc .vmem S512x1024 .f32 := (gM.slice (stgR δ) (fun _ => rfl)).squeeze S512x1024 squeezes_S1x512x1024_S512x1024
/-- Strip `4 δ + r` of the result. -/
def oS (δ : Fin 2) (r : Fin 4) : Memref sig .tc .hbm S512x1024 .f32 := oM.slice (stripR δ r) (fun _ => rfl)

/-- A slot of a bf16 buffer is made of whole words. -/
theorem slot_words (r : Fin 4) : (slotR r).WholeWords (EltTy.packing .bf16) := match r with
  | 0 => wordsbf16_S4x512x1024_S1x512x1024_0_0_0 | 1 => wordsbf16_S4x512x1024_S1x512x1024_1_0_0
  | 2 => wordsbf16_S4x512x1024_S1x512x1024_2_0_0 | 3 => wordsbf16_S4x512x1024_S1x512x1024_3_0_0
/-- A slot of a bf16 buffer is made of whole packed rows. -/
theorem slot_packed (r : Fin 4) : (slotR r).PackedRows (EltTy.packing .bf16) := match r with
  | 0 => packedbf16_S4x512x1024_S1x512x1024_0_0_0 | 1 => packedbf16_S4x512x1024_S1x512x1024_1_0_0
  | 2 => packedbf16_S4x512x1024_S1x512x1024_2_0_0 | 3 => packedbf16_S4x512x1024_S1x512x1024_3_0_0

/-! ## The values a phase computes -/

/-- The device's own product of a 512 × 512 block of `x` and a 512 × 1024 strip of `w`, rounded to bf16. -/
def prodV (vx : Vec F S512x512 .bf16) (vw : Vec F S512x1024 .bf16) : FVec F S512x1024 .bf16 :=
  truncf .bf16 (matmul dot_S512x512_S512x1024_S512x1024_1_0_0_1_n_n none (shapeCast S512x512 vx shapeCasts_S512x512_S512x512)
    (shapeCast S512x1024 vw shapeCasts_S512x1024_S512x1024) (constant S512x1024 .f32 0x00000000#32)) bitsLt_bf16_f32
/-- What step 0 sends: the product alone; -/
def payA (vx : Vec F S512x512 .bf16) (vw : Vec F S512x1024 .bf16) : FVec F S1x512x1024 .bf16 :=
  shapeCast S1x512x1024 (prodV vx vw) shapeCasts_S512x1024_S1x512x1024
/-- a later step: the product added to what arrived; -/
def sumV (vx : Vec F S512x512 .bf16) (vw : Vec F S512x1024 .bf16) (vr : Vec F S1x512x1024 .bf16) : FVec F S512x1024 .bf16 :=
  addf (prodV vx vw) (shapeCast S512x1024 vr shapeCasts_S1x512x1024_S512x1024)
/-- That sum in the shape of a slot. -/
def payB (vx : Vec F S512x512 .bf16) (vw : Vec F S512x1024 .bf16) (vr : Vec F S1x512x1024 .bf16) : FVec F S1x512x1024 .bf16 :=
  shapeCast S1x512x1024 (sumV vx vw vr) shapeCasts_S512x1024_S1x512x1024
/-- and the last step: that sum `y` as `y · logistic y` in f32. -/
def payC (vx : Vec F S512x512 .bf16) (vw : Vec F S512x1024 .bf16) (vr : Vec F S1x512x1024 .bf16) : FVec F S1x512x1024 .f32 :=
  shapeCast S1x512x1024 (mulf (extf .f32 (sumV vx vw vr) bitsLt_bf16_f32) (logistic (extf .f32 (sumV vx vw vr) bitsLt_bf16_f32))) shapeCasts_S512x1024_S1x512x1024

/-! ## The phases -/

/-- The programs a core runs. -/
abbrev PR (F : FTy → Type) : Type 1 := Prog (TpuEff nD τ sig (Elt F) Λ₀ .tc) PUnit

/-- The load of the block of `x` used at step `s`. -/
def ldX (δ : Fin 2) (d0 : Dev nD) (s : Fin 8) : Prog (TpuEff nD τ sig (Elt F) Λ₀ .tc) (Vec F S512x512 .bf16) :=
  Prog.lift (.load xM (xR δ d0 s).toLoadRect (View.loadsAt_vmem h_S512x512))
/-- The load of a strip of `w`. -/
def ldW (δ : Fin 2) (r : Fin 4) : Prog (TpuEff nD τ sig (Elt F) Λ₀ .tc) (Vec F S512x1024 .bf16) :=
  Prog.lift (.load wM (stripR δ r).toLoadRect (View.loadsAt_vmem h_S512x1024))
/-- The load of slot `r` of a four-slot buffer. -/
def ldS (m : Memref sig .tc .vmem S4x512x1024 .bf16) (r : Fin 4) : Prog (TpuEff nD τ sig (Elt F) Λ₀ .tc) (Vec F S1x512x1024 .bf16) :=
  Prog.lift (.load m (slotR r).toLoadRect (View.loadsAt_vmem h_S1x512x1024))
/-- The store of `v` into slot `r` of the send buffer. -/
def stS (δ : Fin 2) (r : Fin 4) (v : FVec F S1x512x1024 .bf16) : PR F :=
  Prog.lift (.store (sbM δ) (slotR r) v Finset.univ (View.stores_vmem h_S1x512x1024 ((sbM_whole δ).storeExact_slice rfl _ (slot_packed r)) (fun _ => rfl)) (.inl rfl))
/-- The load of a staging slot. -/
def ldG (δ : Fin 2) : Prog (TpuEff nD τ sig (Elt F) Λ₀ .tc) (Vec F S1x512x1024 .f32) :=
  Prog.lift (.load gM (stgR δ).toLoadRect (View.loadsAt_vmem h_S1x512x1024))
/-- The store of `v` into a staging slot. -/
def stG (δ : Fin 2) (v : FVec F S1x512x1024 .f32) : PR F :=
  Prog.lift (.store gM (stgR δ) v Finset.univ (View.stores_vmem_bits_univ h_S1x512x1024 rfl) (.inl rfl))

/-- A send slot is made of whole words. -/
theorem sb_words (δ : Fin 2) (r : Fin 4) : (sbS δ r).view.WordExact := ((sbM_whole δ).wordExact_slice rfl _ (slot_words r)).reshape _ _
/-- A receive slot is made of whole words. -/
theorem rb_words (δ : Fin 2) (r : Fin 4) : (rbS δ r).view.WordExact := ((rbM_whole δ).wordExact_slice rfl _ (slot_words r)).reshape _ _

/-- Wait for the landing in the receive slot; for the send slot's own transfer to have left it; for the copy of strip `4 δ + r` to the result. -/
def waitR (δ : Fin 2) (r : Fin 4) : PR F := Prog.lift (.waitDma2 (recvS δ r) (rbS δ r) (rbS δ r) (rb_words δ r) (rb_words δ r))
/-- Wait for the transfer out of the send slot to be done with it. -/
def waitS (δ : Fin 2) (r : Fin 4) : PR F := Prog.lift (.waitDma2 (sendS δ r) (rbS δ r) (sbS δ r) (rb_words δ r) (sb_words δ r))
/-- Wait for the copy of strip `4 δ + r` to the result. -/
def waitO (δ : Fin 2) (r : Fin 4) : PR F :=
  Prog.lift (.waitDma2 (outS δ) (gS δ) (oS δ r) ((View.wordExact_bits rfl).reshape _ _) (View.wordExact_bits rfl))

/-- A receive slot is no scratch of another kind of core. -/
theorem rb_tc (δ : Fin 2) (r : Fin 4) (d : Dev nD) : (rbS δ r : Memref sig (Dev.tc d : Thread nD τ).2.kind .vmem S512x1024 .bf16).view.ref.isScScratch = false :=
  match δ with | 0 => rfl | 1 => rfl

/-- The transfer of the send slot into device `dst`'s receive slot. -/
def sendD (δ : Fin 2) (r : Fin 4) (dst : Dev nD) : PR F :=
  Prog.lift (.enqueueDma (sbS δ r) (.remote (Dev.tc dst) (rbS δ r) (.dma (sendS δ r)) (rb_tc δ r dst)) (.dma (recvS δ r)) (sb_words δ r) (rb_words δ r) ⟨⟨rfl, Or.inl rfl⟩, trivial⟩)
/-- The copy of the staging slot to strip `4 δ + r` of the result. -/
def copyO (δ : Fin 2) (r : Fin 4) : PR F :=
  Prog.lift (.enqueueDma (gS δ) (.here (oS δ r)) (.dma (outS δ)) ((View.wordExact_bits rfl).reshape _ _) (View.wordExact_bits rfl) ⟨Or.inl rfl, trivial⟩)

/-- Step 0: the own product goes out. -/
def ph0 (d0 : Dev nD) (δ : Fin 2) (r : Fin 4) (dst : Dev nD) (k : PR F) : PR F := do
  let vx ← ldX δ d0 0
  let vw ← ldW δ r
  let _ ← ldS (sbM δ) r
  stS δ r (payA vx vw)
  sendD δ r dst
  k

/-- A middle step: what arrived plus the own product goes out, once the reader downstream has given a credit; the own
    receive slot's reader, this device, gives the credit `up`stream. -/
def phM (d0 : Dev nD) (s : Fin 8) (δ : Fin 2) (r : Fin 4) (up dst : Dev nD) (k : PR F) : PR F := do
  let vx ← ldX δ d0 s
  let vw ← ldW δ r
  waitR δ r
  let vr ← ldS (rbM δ) r
  waitS δ r
  let _ ← ldS (sbM δ) r
  stS δ r (payB vx vw vr)
  semSignalWord up (credS δ) 1#32
  semWaitWord (credS δ) 1#32
  sendD δ r dst
  k

/-- The wait for the previous strip's copy, from the second strip of a direction on. -/
def waitPrev (δ : Fin 2) (r : Fin 4) (k : PR F) : PR F := match r with
  | 0 => k
  | 1 => do waitO δ 0; k
  | 2 => do waitO δ 1; k
  | 3 => do waitO δ 2; k

/-- The last step: the finished strip goes to the result. -/
def phL (d0 : Dev nD) (δ : Fin 2) (r : Fin 4) (k : PR F) : PR F := do
  let vx ← ldX δ d0 7
  let vw ← ldW δ r
  waitR δ r
  let vr ← ldS (rbM δ) r
  waitPrev δ r do
    let _ ← ldG δ
    stG δ (payC vx vw vr)
    copyO δ r
    k

/-- The printed neighbour computations, in program order. -/
def devTab : List (Dev nD → ℕ) := [k0_dev1, k0_dev2, k0_dev3, k0_dev4, k0_dev5, k0_dev6, k0_dev7, k0_dev8, k0_dev9, k0_dev10, k0_dev11, k0_dev12, k0_dev13, k0_dev14, k0_dev15, k0_dev16, k0_dev17, k0_dev18, k0_dev19, k0_dev20, k0_dev21, k0_dev22, k0_dev23, k0_dev24, k0_dev25, k0_dev26, k0_dev27, k0_dev28, k0_dev29, k0_dev30, k0_dev31, k0_dev32, k0_dev33, k0_dev34, k0_dev35, k0_dev36, k0_dev37, k0_dev38, k0_dev39, k0_dev40, k0_dev41, k0_dev42, k0_dev43, k0_dev44, k0_dev45, k0_dev46, k0_dev47, k0_dev48, k0_dev49, k0_dev50, k0_dev51, k0_dev52, k0_dev53, k0_dev54, k0_dev55, k0_dev56, k0_dev57, k0_dev58, k0_dev59, k0_dev60, k0_dev61, k0_dev62, k0_dev63, k0_dev64, k0_dev65, k0_dev66, k0_dev67, k0_dev68, k0_dev69, k0_dev70, k0_dev71, k0_dev72, k0_dev73, k0_dev74, k0_dev75, k0_dev76, k0_dev77, k0_dev78, k0_dev79, k0_dev80, k0_dev81, k0_dev82, k0_dev83, k0_dev84, k0_dev85, k0_dev86, k0_dev87, k0_dev88, k0_dev89, k0_dev90, k0_dev91, k0_dev92, k0_dev93, k0_dev94, k0_dev95, k0_dev96, k0_dev97, k0_dev98, k0_dev99, k0_dev100, k0_dev101, k0_dev102, k0_dev103, k0_dev104, k0_dev105, k0_dev106]
/-- Each of them names one of the eight devices. -/
theorem devTab_lt : ∀ (n : Fin 106) (d0 : Dev nD), (devTab.getD n.val k0_dev1) d0 < nD := by decide +kernel
/-- The `n`-th printed neighbour, as a device. -/
def devAt (d0 : Dev nD) (n : Fin 106) : Dev nD := ⟨(devTab.getD n.val k0_dev1) d0, devTab_lt n d0⟩

/-- Phase `p < 64`. -/
def phase (d0 : Dev nD) (p : ℕ) (k : PR F) : PR F :=
  if p < 8 then ph0 d0 (Fin.ofNat 2 p) (Fin.ofNat 4 (p / 2)) (devAt d0 (Fin.ofNat 106 (2 + p))) k
  else if p < 56 then
    phM d0 (Fin.ofNat 8 (p / 8)) (Fin.ofNat 2 p) (Fin.ofNat 4 (p / 2)) (devAt d0 (Fin.ofNat 106 (2 * p - 6))) (devAt d0 (Fin.ofNat 106 (2 * p - 5))) k
  else phL d0 (Fin.ofNat 2 p) (Fin.ofNat 4 (p / 2)) k

/-- The closing waits: the last transfer out of every send slot, the last copy of either direction. -/
def closing : PR F := do
  waitS 0 0; waitS 1 0; waitS 0 1; waitS 1 1; waitS 0 2; waitS 1 2; waitS 0 3; waitS 1 3
  waitO 0 3; waitO 1 3

/-- The last `n` phases and the closing waits. -/
def phases (d0 : Dev nD) : ℕ → PR F
  | 0 => closing
  | n + 1 => phase d0 (63 - n) (phases d0 n)

/-- The whole body. -/
def ringBody : PR F := do
  let d0 ← Prog.lift .deviceId
  semSignalWord (devAt d0 0) barS 1#32
  semSignalWord (devAt d0 1) barS 1#32
  semWaitWord barS 2#32
  phases d0 64

set_option maxRecDepth 65536 in
/-- The printed body at the launch's arguments is the sequence of phases. -/
theorem body_eq : cc0_body_skel (F := F) (Memref.whole cc0_stg0_0) (Memref.isWhole_whole _) (Memref.whole cc0_stg1_0) (Memref.isWhole_whole _) (Memref.whole main_v1) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) cc0_scratch5 cc0_scratch6 cc0_scratch7 cc0_scratch8 cc0_scratch9 cc0_scratch10 cc0_scratch11
    = ringBody := by
  sl_kernel_rfl

end Cert.KernelIdeal.Ring

end
-- ==== Proof.Cells.lean ====
/-
# The cells of the ring

The ghost vocabulary of the protocol: the neighbours on the ring, the resource algebra, and the semaphores of a device as
the cells of the rounds library.
-/
module

public import proofs.«01_k».proof.Proof.Phases
public import Idealize.ShloMosaic.Lib.Pipeline.Launch
public import Idealize.ShloMosaic.Lib.Pipeline.Kit
public import Idealize.ShloMosaic.Lib.Release
public import Idealize.SL.BI.BigOpNat

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg Window BodyObligation cellOf)

variable {F : FTy → Type} [FloatOps F]

/-! ## The ring -/

/-- The device `c` sends to in direction `δ`, -/
def dn (δ : Fin 2) (c : Dev nD) : Dev nD := match δ with
  | 0 => ⟨(c.val + 1) % 8, Nat.mod_lt _ (by decide)⟩
  | 1 => ⟨(c.val + 7) % 8, Nat.mod_lt _ (by decide)⟩
/-- and the one it receives from. -/
def up (δ : Fin 2) (c : Dev nD) : Dev nD := match δ with
  | 0 => ⟨(c.val + 7) % 8, Nat.mod_lt _ (by decide)⟩
  | 1 => ⟨(c.val + 1) % 8, Nat.mod_lt _ (by decide)⟩

/-- Downstream of upstream is the device itself. -/
theorem dn_up : ∀ (δ : Fin 2) (c : Dev nD), dn δ (up δ c) = c := by decide
/-- Upstream of downstream is the device itself. -/
theorem up_dn : ∀ (δ : Fin 2) (c : Dev nD), up δ (dn δ c) = c := by decide

/-- Direction `δ` as a permutation of the devices. -/
def ring (δ : Fin 2) : Dev nD ≃ Dev nD := ⟨dn δ, up δ, up_dn δ, dn_up δ⟩

/-- The printed neighbour computations: the handshake's two, -/
theorem devAt_bar : ∀ c : Dev nD, devAt c 0 = up 0 c ∧ devAt c 1 = dn 0 c := by decide +kernel
/-- the eight sends of step 0, -/
theorem devAt_ph0 : ∀ (c : Dev nD) (p : Fin 8), devAt c (Fin.ofNat 106 (2 + p.val)) = dn (Fin.ofNat 2 p.val) c := by decide +kernel
/-- and the credit and the send of every middle phase. -/
theorem devAt_phM : ∀ (c : Dev nD) (p : Fin 48), devAt c (Fin.ofNat 106 (2 * (p.val + 8) - 6)) = up (Fin.ofNat 2 (p.val + 8)) c
    ∧ devAt c (Fin.ofNat 106 (2 * (p.val + 8) - 5)) = dn (Fin.ofNat 2 (p.val + 8)) c := by decide +kernel

/-! ## The resource algebra -/

/-- Which receive slot: the reader's device, the direction, the strip. -/
abbrev SlotKey : Type := Dev nD × (Fin 2 × Fin 4)
/-- The rounds of the ring's cells. -/
abbrev UB : Type := URounds (GSem nD τ sig) ℕ
/-- Those rounds and the releases of the receive slots. -/
abbrev UX : Type := UB × USlots SlotKey
/-- The pipeline's rounds; the ring's rounds and the receive slots' releases. -/
abbrev UU : Type := UR sig nD τ × UX

local notation "𝕄" => MT nD τ sig ℕ (Elt F) ℕ UU ℕ

/-- Where the pipeline's rounds sit in the resources. -/
abbrev EP : Emb (UR sig nD τ) (MT nD τ sig ℕ (Elt F) ℕ UU ℕ) := embL
/-- Where the ring's resources sit. -/
abbrev EX : Emb UX (MT nD τ sig ℕ (Elt F) ℕ UU ℕ) := embR
/-- Where the ring's rounds sit. -/
def ER : Emb UB (MT nD τ sig ℕ (Elt F) ℕ UU ℕ) := (Emb.inl : Emb UB UX).trans EX
/-- Where the releases of the receive slots sit. -/
def ES : Emb (USlots SlotKey) (MT nD τ sig ℕ (Elt F) ℕ UU ℕ) := (Emb.inr : Emb (USlots SlotKey) UX).trans EX

instance ER_landsIn : (ER : Emb UB 𝕄).LandsIn (upEmb : UEmb _ 𝕄) := by unfold ER; infer_instance
instance ES_landsIn : (ES : Emb (USlots SlotKey) 𝕄).LandsIn (upEmb : UEmb _ 𝕄) := by unfold ES; infer_instance

/-! ## The cells -/

/-- A device's own cells: per direction and strip the sends' and the landings'; per direction the credits' and the copies'. -/
abbrev OK : Type := (Fin 2 × Fin 4) ⊕ (Fin 2 × Fin 4) ⊕ Fin 2 ⊕ Fin 2
/-- All its cells: the barrier's, and its own. -/
abbrev CK : Type := Unit ⊕ OK

/-- The barrier's cell. -/
abbrev kB : CK := .inl ()
/-- The cell of the sends of strip `r` in direction `δ`. -/
abbrev kS (δ : Fin 2) (r : Fin 4) : CK := .inr (.inl (δ, r))
/-- The cell of the landings of that strip. -/
abbrev kR (δ : Fin 2) (r : Fin 4) : CK := .inr (.inr (.inl (δ, r)))
/-- The cell of the credits of direction `δ`. -/
abbrev kC (δ : Fin 2) : CK := .inr (.inr (.inr (.inl δ)))
/-- The cell of the copies to the result of direction `δ`. -/
abbrev kO (δ : Fin 2) : CK := .inr (.inr (.inr (.inr δ)))

/-- The semaphore of each. -/
def csem : CK → SemLoc sig
  | .inl _ => .reg barS
  | .inr (.inl x) => .dma (sendS x.1 x.2)
  | .inr (.inr (.inl x)) => .dma (recvS x.1 x.2)
  | .inr (.inr (.inr (.inl δ))) => .reg (credS δ)
  | .inr (.inr (.inr (.inr δ))) => .dma (outS δ)

/-- Different cells have different semaphores. -/
theorem csem_inj : Function.Injective csem := by
  have h : ∀ a b : CK, csem a = csem b → a = b := by decide +kernel
  exact fun a b => h a b

/-- Which cell a semaphore is. -/
def kindOf (s : SemLoc sig) : Option CK := by
  classical
  exact if h : ∃ k, csem k = s then some h.choose else none
/-- A cell's semaphore tells the cell. -/
theorem kindOf_csem (k : CK) : kindOf (csem k) = some k := by
  have h : ∃ k', csem k' = csem k := ⟨k, rfl⟩
  unfold kindOf; rw [dif_pos h]; exact congrArg some (csem_inj h.choose_spec)

/-- Cell `k` of device `c`, as a semaphore of the machine. -/
abbrev cell (c : Dev nD) (k : CK) : GSem nD τ sig := ((c : Thread nD τ), csem k)
/-- The same of a pair. -/
abbrev kcell (x : Dev nD × CK) : GSem nD τ sig := cell x.1 x.2

/-- Different pairs of a device and a cell are different semaphores. -/
theorem kcell_inj : Function.Injective kcell := fun a b h => by
  obtain ⟨h1, h2⟩ := Prod.mk.inj h
  exact Prod.ext (Prod.mk.inj h1).1 (csem_inj h2)

end Cert.KernelIdeal.Ring

end
-- ==== Proof.Protocol.lean ====
/-
# The protocol of the ring

Every device runs two rings at once: in direction 0 it sends to the next device, in direction 1 to the previous one; in
each direction four strips travel independently, each through one send slot and one receive slot. This module fixes the
ghost vocabulary: the neighbours, the memory slots and their contents, the semaphores as cells of the rounds library,
with the rounds each cell goes through and what its units hand over, what a device owes at launch, and the levels under
which every wait sits below what its device then owes.

The receive slots are lent through the release library: a reader releases its slot when it has read it, and the writer
upstream may take the slot for its write number `n` once it knows that release `n` has happened. That knowledge travels
with the barrier's units (first release) and with the credits (the later ones).
-/
module

public import proofs.«01_k».proof.Proof.Cells

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg Window BodyObligation cellOf)

variable {F : FTy → Type} [FloatOps F]

local notation "𝕄" => MT nD τ sig ℕ (Elt F) ℕ UU ℕ

/-! ## The slots and their contents -/

/-- Slot `r` of the send and receive buffers, slot `δ` of the staging buffer, as the loads and stores see them. -/
abbrev sbV (δ : Fin 2) (r : Fin 4) : Memref sig .tc .vmem S1x512x1024 .bf16 := (sbM δ).slice (slotR r) (fun _ => rfl)
/-- Slot `r` of the receive buffer, as the loads see it. -/
abbrev rbV (δ : Fin 2) (r : Fin 4) : Memref sig .tc .vmem S1x512x1024 .bf16 := (rbM δ).slice (slotR r) (fun _ => rfl)
/-- Slot `δ` of the staging buffer, as the loads and stores see it. -/
abbrev gV (δ : Fin 2) : Memref sig .tc .vmem S1x512x1024 .f32 := gM.slice (stgR δ) (fun _ => rfl)

/-- The units one transfer of a slot credits, and one copy of a strip. -/
def N : ℕ := (rbS 0 0).view.dmaCredit
/-- The units one copy of a strip credits. -/
def NO : ℕ := (oS 0 0).view.dmaCredit
/-- A transfer credits at least one unit. -/
theorem N_pos : 0 < N := View.dmaCredit_pos _ (by decide)
/-- A copy credits at least one unit. -/
theorem NO_pos : 0 < NO := View.dmaCredit_pos _ (by decide)

/-- Device `c`'s slots holding given contents, or anything. -/
def sbHas (c : Dev nD) (δ : Fin 2) (r : Fin 4) (X : Vec F S1x512x1024 .bf16) : sProp 𝕄 := owns (c : Thread nD τ) (sbV δ r) fullShare X
/-- Device `c`'s receive slot holds `X`. -/
def rbHas (c : Dev nD) (δ : Fin 2) (r : Fin 4) (X : Vec F S1x512x1024 .bf16) : sProp 𝕄 := owns (c : Thread nD τ) (rbV δ r) fullShare X
/-- Its staging slot holds `X`. -/
def gHas (c : Dev nD) (δ : Fin 2) (X : Vec F S1x512x1024 .f32) : sProp 𝕄 := owns (c : Thread nD τ) (gV δ) fullShare X
/-- Its strip of the result holds `X`. -/
def oHas (c : Dev nD) (δ : Fin 2) (r : Fin 4) (X : Vec F S512x1024 .f32) : sProp 𝕄 := owns (c : Thread nD τ) (oS δ r) fullShare X
/-- Its send slot holds something. -/
def sbAny (c : Dev nD) (δ : Fin 2) (r : Fin 4) : sProp 𝕄 := slot ((sbV δ r).view.loc (c : Thread nD τ)) (sbV δ r).view.set
/-- Its receive slot holds something. -/
def rbAny (c : Dev nD) (δ : Fin 2) (r : Fin 4) : sProp 𝕄 := slot ((rbV δ r).view.loc (c : Thread nD τ)) (rbV δ r).view.set
/-- Its staging slot holds something. -/
def gAny (c : Dev nD) (δ : Fin 2) : sProp 𝕄 := slot ((gV δ).view.loc (c : Thread nD τ)) (gV δ).view.set
/-- Its strip of the result holds something. -/
def oAny (c : Dev nD) (δ : Fin 2) (r : Fin 4) : sProp 𝕄 := slot ((oS δ r).view.loc (c : Thread nD τ)) (oS δ r).view.set

instance sbHas_storable (c δ r X) : BI.Storable (upEmb : UEmb _ 𝕄) (sbHas (F := F) c δ r X) := by unfold sbHas; infer_instance
instance rbHas_storable (c δ r X) : BI.Storable (upEmb : UEmb _ 𝕄) (rbHas (F := F) c δ r X) := by unfold rbHas; infer_instance
instance gHas_storable (c δ X) : BI.Storable (upEmb : UEmb _ 𝕄) (gHas (F := F) c δ X) := by unfold gHas; infer_instance
instance oHas_storable (c δ r X) : BI.Storable (upEmb : UEmb _ 𝕄) (oHas (F := F) c δ r X) := by unfold oHas; infer_instance
instance sbAny_storable (c δ r) : BI.Storable (upEmb : UEmb _ 𝕄) (sbAny (F := F) c δ r) := by unfold sbAny; infer_instance
instance rbAny_storable (c δ r) : BI.Storable (upEmb : UEmb _ 𝕄) (rbAny (F := F) c δ r) := by unfold rbAny; infer_instance
instance gAny_storable (c δ) : BI.Storable (upEmb : UEmb _ 𝕄) (gAny (F := F) c δ) := by unfold gAny; infer_instance
instance oAny_storable (c δ r) : BI.Storable (upEmb : UEmb _ 𝕄) (oAny (F := F) c δ r) := by unfold oAny; infer_instance

variable (xs : Dev nD → (cc0_stg0_0 : Ref sig .tc).ty.Contents (Elt F)) (ws : Dev nD → (cc0_stg1_0 : Ref sig .tc).ty.Contents (Elt F))

/-- The block of `x` device `c` reads at step `s`, and the strip of `w`. -/
def xrd (c : Dev nD) (δ : Fin 2) (s : Fin 8) : Vec F S512x512 .bf16 := xM.view.readAt (Elt F) (xR δ c s).toLoadRect (xs c)
/-- The strip of `w` device `c` reads. -/
def wrd (c : Dev nD) (δ : Fin 2) (r : Fin 4) : Vec F S512x1024 .bf16 := wM.view.readAt (Elt F) (stripR δ r).toLoadRect (ws c)

/-- What device `c` sends of strip `r` in direction `δ` at step `s`. -/
def sent (δ : Fin 2) (r : Fin 4) : ℕ → Dev nD → Vec F S1x512x1024 .bf16
  | 0, c => payA (xrd xs c δ 0) (wrd ws c δ r)
  | s + 1, c => payB (xrd xs c δ (Fin.ofNat 8 (s + 1))) (wrd ws c δ r) (sent δ r s (up δ c))
/-- Its finished strip, as stored, -/
def finalV (δ : Fin 2) (r : Fin 4) (c : Dev nD) : Vec F S1x512x1024 .f32 := payC (xrd xs c δ 7) (wrd ws c δ r) (sent xs ws δ r 6 (up δ c))
/-- and as copied to the result. -/
def outV (δ : Fin 2) (r : Fin 4) (c : Dev nD) : Vec F S512x1024 .f32 :=
  fun j => finalV xs ws δ r c (Shape.reshapeEquiv (Shape.Squeezes.numel_eq squeezes_S1x512x1024_S512x1024) j)

/-! ## The schedule -/

/-- Device `b` has given back its receive slot for write number `s + 1` of it, and waits for the landing of step `s`. -/
def factF (b : Dev nD) (δ : Fin 2) (i : Fin 4) (s : ℕ) : sProp 𝕄 :=
  iprop(released ES ((b, (δ, i)) : SlotKey) (s + 1) ∗ reached ER (cell b (kR δ i)) s)

instance factF_persistent (b δ i s) : BI.Persistent (factF (F := F) b δ i s) := by unfold factF; infer_instance
instance factF_storable (b δ i s) : BI.Storable (upEmb : UEmb _ 𝕄) (factF (F := F) b δ i s) := by unfold factF; infer_instance

/-- The duties of a cell's rounds: the barrier has one round of two units; the sends and landings of a strip seven rounds, of
    one transfer each; the credits one round of twenty-four units; the copies four rounds. -/
def dutyK : CK → ℕ → Finset ℕ
  | .inl _, r => if r = 0 then {0, 1} else ∅
  | .inr (.inl _), r => if r < 7 then {0} else ∅
  | .inr (.inr (.inl _)), r => if r < 7 then {0} else ∅
  | .inr (.inr (.inr (.inl _))), r => if r = 0 then Finset.range 24 else ∅
  | .inr (.inr (.inr (.inr _))), r => if r < 4 then {0} else ∅
/-- The units of each. -/
def amtK : CK → ℕ
  | .inl _ => 1
  | .inr (.inl _) => N
  | .inr (.inr (.inl _)) => N
  | .inr (.inr (.inr (.inl _))) => 1
  | .inr (.inr (.inr (.inr _))) => NO
/-- What they hand device `c`: a barrier unit, that the neighbour's four receive slots towards it are free; a landing, the
    receive slot with what was sent; a send's own completion, the send slot; credit `n`, that the receive slots downstream
    of the credits up to `n` are free; a copy's completion, the staging slot and the finished strip. -/
def payK (c : Dev nD) : CK → ℕ → ℕ → sProp 𝕄
  | .inl _, _, d => bigSep Finset.univ fun i : Fin 4 => factF (dn (Fin.ofNat 2 d) c) (Fin.ofNat 2 d) i 0
  | .inr (.inl x), _, _ => sbAny c x.1 x.2
  | .inr (.inr (.inl x)), r, _ => rbHas c x.1 x.2 (sent xs ws x.1 x.2 r (up x.1 c))
  | .inr (.inr (.inr (.inl δ))), _, d => bigSep (Finset.range (d + 1)) fun n => factF (dn δ c) δ (Fin.ofNat 4 n) (n / 4 + 1)
  | .inr (.inr (.inr (.inr δ))), r, _ => iprop(gAny c δ ∗ oHas c δ (Fin.ofNat 4 r) (outV xs ws δ (Fin.ofNat 4 r) c))

/-- Every duty is of at least one unit. -/
theorem amtK_pos (k : CK) : 0 < amtK k := by
  rcases k with _ | x | x | δ | δ
  · exact Nat.one_pos
  · exact N_pos
  · exact N_pos
  · exact Nat.one_pos
  · exact NO_pos

instance payK_storable (c : Dev nD) (k : CK) (r d : ℕ) : BI.Storable (upEmb : UEmb _ 𝕄) (payK xs ws c k r d) := match k with
  | .inl _ => inferInstanceAs (BI.Storable upEmb (bigSep Finset.univ fun i : Fin 4 => factF (F := F) (dn (Fin.ofNat 2 d) c) (Fin.ofNat 2 d) i 0))
  | .inr (.inl x) => sbAny_storable c x.1 x.2
  | .inr (.inr (.inl x)) => rbHas_storable c x.1 x.2 _
  | .inr (.inr (.inr (.inl δ))) =>
    inferInstanceAs (BI.Storable upEmb (bigSep (Finset.range (d + 1)) fun n => factF (F := F) (dn δ c) δ (Fin.ofNat 4 n) (n / 4 + 1)))
  | .inr (.inr (.inr (.inr δ))) =>
    inferInstanceAs (BI.Storable upEmb iprop(gAny c δ ∗ oHas c δ (Fin.ofNat 4 r) (outV xs ws δ (Fin.ofNat 4 r) c)))

/-- The ring's schedule. -/
def Rd : Rounds.Schedule (GSem nD τ sig) ℕ 𝕄 where
  duties g r := if g.1.2 = .tc then (match kindOf g.2 with | some k => dutyK k r | none => ∅) else ∅
  unitless _ := False
  amount g _ _ := match kindOf g.2 with | some k => amtK k | none => 1
  payload g r d := match kindOf g.2 with | some k => payK xs ws g.1.1 k r d | none => iprop(emp)
  amount_pos g r d _ := by
    show 0 < (match kindOf g.2 with | some k => amtK k | none => 1)
    cases kindOf g.2 with
    | some k => exact amtK_pos k
    | none => exact Nat.one_pos

instance Rd_payload_storable (g : GSem nD τ sig) (r : ℕ) (d : ℕ) :
    BI.Storable (upEmb : UEmb _ 𝕄) ((Rd xs ws).payload g r d) := by
  show BI.Storable upEmb (match kindOf g.2 with | some k => payK xs ws g.1.1 k r d | none => iprop(emp))
  cases kindOf g.2 with
  | some k => exact payK_storable xs ws _ k r d
  | none => exact inferInstanceAs (BI.Storable upEmb (iprop(emp) : sProp 𝕄))

/-- The schedule's duties, at a cell of the ring. -/
theorem Rd_duties (c : Dev nD) (k : CK) (r : ℕ) : (Rd xs ws).duties (cell c k) r = dutyK k r := by
  show (if ((c : Thread nD τ)).2 = .tc then (match kindOf (csem k) with | some k => dutyK k r | none => ∅) else ∅) = _
  rw [kindOf_csem]; exact if_pos rfl
/-- The schedule's amounts there. -/
theorem Rd_amount (c : Dev nD) (k : CK) (r d : ℕ) : (Rd xs ws).amount (cell c k) r d = amtK k := by
  show (match kindOf (csem k) with | some k => amtK k | none => 1) = _
  rw [kindOf_csem]
/-- What the schedule hands over there. -/
theorem Rd_payload (c : Dev nD) (k : CK) (r d : ℕ) : (Rd xs ws).payload (cell c k) r d = payK xs ws c k r d := by
  show (match kindOf (csem k) with | some k => payK xs ws c k r d | none => iprop(emp)) = _
  rw [kindOf_csem]
/-- The units a round there brings: its duties times the amount of each. -/
theorem Rd_expect (c : Dev nD) (k : CK) (r : ℕ) : (Rd xs ws).expect (cell c k) r = (dutyK k r).card * amtK k := by
  unfold Schedule.expect Schedule.amountOf
  rw [Rd_duties, Finset.sum_congr rfl fun d _ => Rd_amount xs ws c k r d, Finset.sum_const, smul_eq_mul]

/-- The round at which a cell is finished, -/
def lastK : CK → ℕ
  | .inl _ => 1
  | .inr (.inl _) => 7
  | .inr (.inr (.inl _)) => 7
  | .inr (.inr (.inr (.inl _))) => 1
  | .inr (.inr (.inr (.inr _))) => 4
/-- from which it has no duty. -/
theorem Rd_last (c : Dev nD) (k : CK) : ∀ r, lastK k ≤ r → (Rd xs ws).duties (cell c k) r = ∅ := by
  intro r hr; rw [Rd_duties]
  rcases k with _ | x | x | δ | δ
  · exact if_neg (Nat.pos_iff_ne_zero.mp hr)
  · exact if_neg (Nat.not_lt.mpr hr)
  · exact if_neg (Nat.not_lt.mpr hr)
  · exact if_neg (Nat.pos_iff_ne_zero.mp hr)
  · exact if_neg (Nat.not_lt.mpr hr)

/-! ## What a device owes; the levels -/

/-- The direction and the strip of phase `p`. -/
abbrev pδ (p : ℕ) : Fin 2 := Fin.ofNat 2 p
/-- The strip of phase `p`, counted within its direction. -/
abbrev pr (p : ℕ) : Fin 4 := Fin.ofNat 4 (p / 2)

/-- The credit phase `p` gives upstream, if it is a middle phase; -/
def dueC (c : Dev nD) (p : ℕ) : CellTallies nD τ sig ℕ :=
  if 8 ≤ p then tallyAt (cell (up (pδ p) c) (kC (pδ p))) (2 * p + 2) 1 else 0
/-- the units it sends downstream. -/
def dueR (c : Dev nD) (p : ℕ) : CellTallies nD τ sig ℕ := tallyAt (cell (dn (pδ p) c) (kR (pδ p) (pr p))) (2 * p + 3) N
/-- What the phases from `p` on still owe; -/
def owed (c : Dev nD) (p : ℕ) : CellTallies nD τ sig ℕ := ∑ q ∈ Finset.Ico p 56, (dueR c q + dueC c q)
/-- and at launch also a unit to either neighbour's barrier. -/
def O₁ (c : Dev nD) : CellTallies nD τ sig ℕ := owed c 0 + tallyAt (cell (dn 0 c) kB) 1 1
/-- All that a device owes at launch. -/
def O₀ (c : Dev nD) : CellTallies nD τ sig ℕ := O₁ c + tallyAt (cell (up 0 c) kB) 1 1

/-- What is owed from phase `p` on is what that phase owes and what the later ones do. -/
theorem owed_step (c : Dev nD) {p : ℕ} (h : p < 56) : owed c p = (owed c (p + 1) + dueR c p) + dueC c p := by
  unfold owed
  rw [show Finset.Ico p 56 = insert p (Finset.Ico (p + 1) 56) by ext x; simp only [Finset.mem_Ico, Finset.mem_insert]; omega,
    Finset.sum_insert (by simp only [Finset.mem_Ico]; omega), add_comm (dueR c p + dueC c p), add_assoc]
/-- From phase 56 on nothing is owed. -/
theorem owed_end (c : Dev nD) {p : ℕ} (h : 56 ≤ p) : owed c p = 0 := by
  unfold owed; rw [Finset.Ico_eq_empty_of_le h, Finset.sum_empty]

/-- Every index of every core's cell has its own value as level. -/
def L (g : GSem nD τ sig) : Finset ℕ := if g.1.2 = .tc then Finset.range 200 else ∅
/-- The level of index `i` is `i`. -/
def lv (_ : GSem nD τ sig) (i : ℕ) : ℕ := i
/-- Only the cores' cells have levels. -/
theorem L_of_ne (g : GSem nD τ sig) (h : g.1.2 ≠ .tc) : L g = ∅ := if_neg h

/-- A tally whose units all sit on the cores' cells, at indices above `i`. -/
def Above (i : ℕ) (O : CellTallies nD τ sig ℕ) : Prop := ∀ g j, 0 < O g j → g.1.2 = .tc ∧ i < j ∧ j < 200

/-- Owing nothing is owing only above any level. -/
theorem above_zero (i : ℕ) : Above i 0 := fun g j h => absurd h (Nat.lt_irrefl 0)
/-- Two debts above a level are together above it. -/
theorem above_add {i : ℕ} {A B : CellTallies nD τ sig ℕ} (hA : Above i A) (hB : Above i B) : Above i (A + B) := fun g j h => by
  rw [Pi.add_apply, Finsupp.add_apply] at h
  rcases Nat.eq_zero_or_pos (A g j) with h0 | h0
  · exact hB g j (by omega)
  · exact hA g j h0
/-- A debt to one cell at an index above `i` is above `i`. -/
theorem above_tally {i j n : ℕ} (c : Dev nD) (k : CK) (h : i < j) (hj : j < 200) : Above i (tallyAt (cell c k) j n) := fun g j' hp => by
  obtain ⟨rfl, rfl⟩ := Pipeline.tallyAt_pos hp
  exact ⟨rfl, h, hj⟩
/-- A sum of debts above a level is above it. -/
theorem above_sum {i : ℕ} (s : Finset ℕ) (f : ℕ → CellTallies nD τ sig ℕ) (h : ∀ q ∈ s, Above i (f q)) : Above i (∑ q ∈ s, f q) := by
  classical
  induction s using Finset.induction_on with
  | empty => rw [Finset.sum_empty]; exact above_zero i
  | insert a s ha ih =>
    rw [Finset.sum_insert ha]
    exact above_add (h a (Finset.mem_insert_self _ _)) (ih fun q hq => h q (Finset.mem_insert_of_mem hq))
/-- The credit of phase `p` is owed at level `2 p + 2`. -/
theorem above_dueC {i p : ℕ} (c : Dev nD) (h : i < 2 * p + 2) (hp : p < 56) : Above i (dueC c p) := by
  unfold dueC; split
  · exact above_tally _ _ h (by omega)
  · exact above_zero i
/-- The transfer of phase `p` is owed at level `2 p + 3`. -/
theorem above_dueR {i p : ℕ} (c : Dev nD) (h : i < 2 * p + 3) (hp : p < 56) : Above i (dueR c p) := above_tally _ _ h (by omega)
/-- All that is owed from phase `p` on is above every level below `2 p + 2`. -/
theorem above_owed {i p : ℕ} (c : Dev nD) (h : i < 2 * p + 2) : Above i (owed c p) := above_sum _ _ fun q hq => by
  obtain ⟨h1, h2⟩ := Finset.mem_Ico.mp hq
  exact above_add (above_dueR c (by omega) h2) (above_dueC c (by omega) h2)
/-- All that is owed at launch is above level 0. -/
theorem above_O₀ (c : Dev nD) : Above 0 (O₀ c) :=
  above_add (above_add (above_owed c (by omega)) (above_tally _ _ (by omega) (by omega))) (above_tally _ _ (by omega) (by omega))

/-- A wait at index `i` is allowed while owing only above `i`. -/
theorem mayWait (c : Dev nD) (sm : SemLoc sig) {i : ℕ} {O : CellTallies nD τ sig ℕ} (hi : i < 200) (h : Above i O) :
    (levAts L lv : sProp 𝕄) ⊢ MayWait (c : Thread nD τ) sm i O :=
  Pipeline.mayWait_of_levAts (by unfold L; rw [if_pos rfl]; exact Finset.mem_range.mpr hi) fun g j hp => by
    obtain ⟨h1, h2, h3⟩ := h g j hp
    exact ⟨by unfold L; rw [if_pos h1]; exact Finset.mem_range.mpr h3, h2⟩

end Cert.KernelIdeal.Ring

end
-- ==== Proof.Ops.lean ====
/-
# One rule per operation

What each operation of a phase does to the ghost state of the ring: the loads and stores on the slots, the transfers, the
waits, the credits.
-/
module

public import proofs.«01_k».proof.Proof.Protocol

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg Window BodyObligation cellOf)

variable {F : FTy → Type} [FloatOps F]

local notation "𝕄" => MT nD τ sig ℕ (Elt F) ℕ UU ℕ

variable (xs : Dev nD → (cc0_stg0_0 : Ref sig .tc).ty.Contents (Elt F)) (ws : Dev nD → (cc0_stg1_0 : Ref sig .tc).ty.Contents (Elt F))

/-- The kernel has no loop. -/
abbrev 𝒱₀ : Variants := Variants.none

/-- Device `c` runs `k` to `Q`. -/
abbrev WP (c : Dev nD) (k : PR F) (Q : PUnit → sProp 𝕄) : sProp 𝕄 := wp frame (wpE (defs₀ (F := F)) 𝒱₀ (c : Thread nD τ) none) Set.univ k Q

/-- The staged blocks of the operands. -/
def xPts (c : Dev nD) : sProp 𝕄 := ((c : Thread nD τ).loc cc0_stg0_0) ↦{fullShare} xs c
/-- Device `c`'s staged block of `w`, whole. -/
def wPts (c : Dev nD) : sProp 𝕄 := ((c : Thread nD τ).loc cc0_stg1_0) ↦{fullShare} ws c

/-! ## Contents through the views -/

section Views

variable {κ : Kind} {sp : Space} {s s' : Shape} {e : EltTy}

/-- A transfer between two slots, each seen as its block: what the destination then reads is what the source read. -/
theorem read_write_reshape (v u : View sig κ sp s e) (h : s'.numel = s.numel) (fd : v.ty.Contents (Elt F)) (fs : u.ty.Contents (Elt F)) :
    v.read (Elt F) ((v.reshape s' h).write (Elt F) fd ((u.reshape s' h).read (Elt F) fs) Finset.univ) = u.read (Elt F) fs := by
  have e1 := View.read_write_univ (Val := Elt F) (v := v.reshape s' h) fd ((u.reshape s' h).read (Elt F) fs)
  funext x
  have e2 := congrFun e1 ((Shape.reshapeEquiv h).symm x)
  have e3 : ∀ (w : View sig κ sp s e) (g : w.ty.Contents (Elt F)), (w.reshape s' h).read (Elt F) g ((Shape.reshapeEquiv h).symm x) = w.read (Elt F) g x := fun w g => by
    show w.read (Elt F) g (Shape.reshapeEquiv h ((Shape.reshapeEquiv h).symm x)) = _
    rw [Equiv.apply_symm_apply]
  rw [e3, e3] at e2
  exact e2

end Views

/-! ## Slots: holding something, holding anything -/

/-- A send slot that holds `X` holds something. -/
theorem sbHas_any (c δ r X) : sbHas (F := F) c δ r X ⊢ sbAny c δ r := by
  unfold sbHas sbAny owns slot
  iintro ⟨%f, -, H⟩; iexists f; iexact H
/-- A receive slot that holds `X` holds something. -/
theorem rbHas_any (c δ r X) : rbHas (F := F) c δ r X ⊢ rbAny c δ r := by
  unfold rbHas rbAny owns slot
  iintro ⟨%f, -, H⟩; iexists f; iexact H
/-- A staging slot that holds `X` holds something. -/
theorem gHas_any (c δ X) : gHas (F := F) c δ X ⊢ gAny c δ := by
  unfold gHas gAny owns slot
  iintro ⟨%f, -, H⟩; iexists f; iexact H

/-! ## Loads and stores -/

/-- The load of the block of `x` for step `s` gives that block and leaves the staged `x` as it is. -/
theorem wp_ldX {Q : PUnit → sProp 𝕄} (c : Dev nD) (δ : Fin 2) (s : Fin 8) (k : Vec F S512x512 .bf16 → PR F) :
    xPts xs c ⊢ iprop((xPts xs c -∗ WP c (k (xrd xs c δ s)) Q) -∗ WP c (ldX δ c s >>= k) Q) := by
  exact wp_load_rect 𝒱₀ (c : Thread nD τ) none Set.univ (m := xM) (r := xR δ c s) (S := Finset.univ) (Finset.subset_univ _)

/-- The load of a strip of `w` gives that strip and leaves the staged `w` as it is. -/
theorem wp_ldW {Q : PUnit → sProp 𝕄} (c : Dev nD) (δ : Fin 2) (r : Fin 4) (k : Vec F S512x1024 .bf16 → PR F) :
    wPts ws c ⊢ iprop((wPts ws c -∗ WP c (k (wrd ws c δ r)) Q) -∗ WP c (ldW δ r >>= k) Q) := by
  exact wp_load_rect 𝒱₀ (c : Thread nD τ) none Set.univ (m := wM) (r := stripR δ r) (S := Finset.univ) (Finset.subset_univ _)

/-- A load of the send slot, whatever it holds; its value is not used. -/
theorem wp_ldSb {Q : PUnit → sProp 𝕄} (c : Dev nD) (δ : Fin 2) (r : Fin 4) (k : Vec F S1x512x1024 .bf16 → PR F) :
    sbAny c δ r ⊢ iprop((∀ v, sbAny c δ r -∗ WP c (k v) Q) -∗ WP c (ldS (sbM δ) r >>= k) Q) := by
  unfold sbAny slot
  iintro ⟨%f, H⟩ Hk
  iapply (wp_load_rect 𝒱₀ (c : Thread nD τ) none Set.univ (m := sbM δ) (r := slotR r) (k := k) (S := (sbV δ r).view.set) (f := f) (Finset.Subset.refl _)) $$ H
  iintro H
  iapply Hk
  iexists f; iexact H

/-- A load of a receive slot that holds `X` gives `X`. -/
theorem wp_ldRb {Q : PUnit → sProp 𝕄} (c : Dev nD) (δ : Fin 2) (r : Fin 4) (X : Vec F S1x512x1024 .bf16) (k : Vec F S1x512x1024 .bf16 → PR F) :
    rbHas c δ r X ⊢ iprop((rbHas c δ r X -∗ WP c (k X) Q) -∗ WP c (ldS (rbM δ) r >>= k) Q) := by
  unfold rbHas owns
  iintro ⟨%f, %hf, H⟩ Hk
  subst hf
  iapply (wp_load_rect 𝒱₀ (c : Thread nD τ) none Set.univ (m := rbM δ) (r := slotR r) (S := (rbV δ r).view.set) (f := f) (Finset.Subset.refl _)) $$ H
  iintro H
  iapply Hk
  iexists f
  isplitr
  · ipureintro; rfl
  iexact H

/-- The store into a send slot: it holds `v` after it. -/
theorem wp_stSb {Q : PUnit → sProp 𝕄} (c : Dev nD) (δ : Fin 2) (r : Fin 4) (v : FVec F S1x512x1024 .bf16) (k : PR F) :
    sbAny c δ r ⊢ iprop((sbHas c δ r v -∗ WP c k Q) -∗ WP c (stS δ r v >>= fun _ => k) Q) := by
  unfold sbAny slot sbHas owns
  iintro ⟨%f, H⟩ Hk
  iapply (wp_store 𝒱₀ (c : Thread nD τ) none Set.univ (m := sbM δ) (r := slotR r) (S := (sbV δ r).view.set) (f := f) (w := v) (Mk := Finset.univ)
    (by rw [View.setOn_univ])) $$ H
  iintro H
  iapply Hk
  iexists _
  isplitr
  · ipureintro; exact View.read_write_univ (v := (sbV δ r).view) f v
  iexact H

/-- A load of the staging slot, whatever it holds; its value is not used. -/
theorem wp_ldG {Q : PUnit → sProp 𝕄} (c : Dev nD) (δ : Fin 2) (k : Vec F S1x512x1024 .f32 → PR F) :
    gAny c δ ⊢ iprop((∀ v, gAny c δ -∗ WP c (k v) Q) -∗ WP c (ldG δ >>= k) Q) := by
  unfold gAny slot
  iintro ⟨%f, H⟩ Hk
  iapply (wp_load_rect 𝒱₀ (c : Thread nD τ) none Set.univ (m := gM) (r := stgR δ) (k := k) (S := (gV δ).view.set) (f := f) (Finset.Subset.refl _)) $$ H
  iintro H
  iapply Hk
  iexists f; iexact H

/-- The store into a staging slot: it holds `v` after it. -/
theorem wp_stG {Q : PUnit → sProp 𝕄} (c : Dev nD) (δ : Fin 2) (v : FVec F S1x512x1024 .f32) (k : PR F) :
    gAny c δ ⊢ iprop((gHas c δ v -∗ WP c k Q) -∗ WP c (stG δ v >>= fun _ => k) Q) := by
  unfold gAny slot gHas owns
  iintro ⟨%f, H⟩ Hk
  iapply (wp_store 𝒱₀ (c : Thread nD τ) none Set.univ (m := gM) (r := stgR δ) (S := (gV δ).view.set) (f := f) (w := v) (Mk := Finset.univ)
    (by rw [View.setOn_univ])) $$ H
  iintro H
  iapply Hk
  iexists _
  isplitr
  · ipureintro; exact View.read_write_univ (v := (gV δ).view) f v
  iexact H

/-! ## Waits of a whole round -/

/-- A round of one duty hands over that duty's payload. -/
theorem rest_one (c : Dev nD) (k : CK) (s : ℕ) (h : dutyK k s = {0}) :
    bigSep ((Rd xs ws).duties (cell c k) s \ ∅) (fun d => (Rd xs ws).payload (cell c k) s d) = payK xs ws c k s 0 := by
  rw [Finset.sdiff_empty, Rd_duties, h, bigSep_singleton, Rd_payload]
/-- A round with one duty brings the amount of that duty. -/
theorem expect_one (c : Dev nD) (k : CK) (s : ℕ) (h : dutyK k s = {0}) : (Rd xs ws).expect (cell c k) s = amtK k := by
  rw [Rd_expect, h, Finset.card_singleton, one_mul]

/-- A wait for a whole round of one duty, at an index below everything owed. -/
theorem wp_round {Q : PUnit → sProp 𝕄} (c : Dev nD) (k : CK) (s : ℕ) (h : dutyK k s = {0}) (κ : ℕ) {w : TpuEff nD τ sig (Elt F) Λ₀ .tc PUnit} {n : ℕ}
    (hw : ∀ K : PUnit → sProp 𝕄, wpE (defs₀ (F := F)) 𝒱₀ (c : Thread nD τ) none Set.univ w K = waitSpec (c : Thread nD τ) Set.univ (csem k) n K) (hn : n = amtK k)
    {j : ℕ} (hj : j < 200) {O : CellTallies nD τ sig ℕ} (hO : Above j O) (W : Waits sig ℕ) (kk : PR F) :
    iprop(cellInv ER (Rd xs ws) κ (cell c k) ∗ levAts L lv ∗ cred (tallyAt (cell c k) j (amtK k)) ∗ owes (c : Thread nD τ) O W ∗ atPos ER (cell c k) s ∅ 0)
      ⊢ iprop(((∃ W', owes (c : Thread nD τ) O W') ∗ atPos ER (cell c k) (s + 1) ∅ 0 ∗ reached ER (cell c k) (s + 1) ∗ payK xs ws c k s 0
          -∗ WP c kk Q) -∗ WP c (Prog.lift w >>= fun _ => kk) Q) := by
  subst hn
  iintro ⟨#HI, #Hlev, Hc, Ho, Hat⟩ Hk
  iapply (Rounds.wp_wait_rest_token 𝒱₀ ER (Rd xs ws) (c : Thread nD τ) none (κ := κ) (k := fun _ => kk) hw (Set.mem_univ _) j (O := O) (W := W) (R := s) (m := 0) (T := ∅)
      (by rw [Nat.zero_add]; exact (expect_one xs ws c k s h).symm)) $$ [Hc Ho Hat]
  · isplitr; · iexact HI
    isplitl [Hc]; · iexact Hc
    isplitl [Ho]; · iexact Ho
    isplitr; · iapply (mayWait c (csem k) hj hO); iexact Hlev
    iexact Hat
  iintro ⟨Ho, Hat, Hr, Hpay⟩
  ihave Hp := (Entails.of_eq (rest_one xs ws c k s h)) $$ Hpay
  iapply Hk
  isplitl [Ho]; · iexists _; iexact Ho
  isplitl [Hat]; · iexact Hat
  isplitl [Hr]; · iexact Hr
  iexact Hp

/-- The sends of a strip have one duty in each of the seven rounds. -/
theorem dutyS {δ : Fin 2} {r : Fin 4} {s : ℕ} (h : s < 7) : dutyK (kS δ r) s = {0} := if_pos h
/-- So have its landings. -/
theorem dutyR {δ : Fin 2} {r : Fin 4} {s : ℕ} (h : s < 7) : dutyK (kR δ r) s = {0} := if_pos h
/-- The copies of a direction have one duty in each of the four rounds. -/
theorem dutyO {δ : Fin 2} {s : ℕ} (h : s < 4) : dutyK (kO δ) s = {0} := if_pos h

/-- Every receive slot credits the same units. -/
theorem credit_rb : ∀ (δ : Fin 2) (r : Fin 4), (rbS δ r).view.dmaCredit = N := fun δ r => rfl
/-- Every send slot credits the same units. -/
theorem credit_sb : ∀ (δ : Fin 2) (r : Fin 4), (sbS δ r).view.dmaCredit = N := fun δ r => rfl
/-- Every strip of the result credits the same units. -/
theorem credit_o : ∀ (δ : Fin 2) (r : Fin 4), (oS δ r).view.dmaCredit = NO := fun δ r => rfl

/-- The wait for the landing of step `s`. -/
theorem wp_waitR {Q : PUnit → sProp 𝕄} (c : Dev nD) (δ : Fin 2) (r : Fin 4) {s : ℕ} (h : s < 7) (κ : ℕ) {j : ℕ} (hj : j < 200) {O : CellTallies nD τ sig ℕ} (hO : Above j O) (W : Waits sig ℕ) (k : PR F) :
    iprop(cellInv ER (Rd xs ws) κ (cell c (kR δ r)) ∗ levAts L lv ∗ cred (tallyAt (cell c (kR δ r)) j N) ∗ owes (c : Thread nD τ) O W ∗ atPos ER (cell c (kR δ r)) s ∅ 0)
      ⊢ iprop(((∃ W', owes (c : Thread nD τ) O W') ∗ atPos ER (cell c (kR δ r)) (s + 1) ∅ 0 ∗ reached ER (cell c (kR δ r)) (s + 1) ∗ rbHas c δ r (sent xs ws δ r s (up δ c))
          -∗ WP c k Q) -∗ WP c (waitR δ r >>= fun _ => k) Q) :=
  wp_round xs ws c (kR δ r) s (dutyR h) κ (wpE_waitDma2_eq 𝒱₀ (c : Thread nD τ) none Set.univ) (credit_rb δ r) hj hO W k

/-- The wait for the send slot. -/
theorem wp_waitS {Q : PUnit → sProp 𝕄} (c : Dev nD) (δ : Fin 2) (r : Fin 4) {s : ℕ} (h : s < 7) (κ : ℕ) {j : ℕ} (hj : j < 200) {O : CellTallies nD τ sig ℕ} (hO : Above j O) (W : Waits sig ℕ) (k : PR F) :
    iprop(cellInv ER (Rd xs ws) κ (cell c (kS δ r)) ∗ levAts L lv ∗ cred (tallyAt (cell c (kS δ r)) j N) ∗ owes (c : Thread nD τ) O W ∗ atPos ER (cell c (kS δ r)) s ∅ 0)
      ⊢ iprop(((∃ W', owes (c : Thread nD τ) O W') ∗ atPos ER (cell c (kS δ r)) (s + 1) ∅ 0 ∗ reached ER (cell c (kS δ r)) (s + 1) ∗ sbAny c δ r
          -∗ WP c k Q) -∗ WP c (waitS δ r >>= fun _ => k) Q) :=
  wp_round xs ws c (kS δ r) s (dutyS h) κ (wpE_waitDma2_eq 𝒱₀ (c : Thread nD τ) none Set.univ) (credit_sb δ r) hj hO W k

/-- The wait for the copy of strip `r`. -/
theorem wp_waitO {Q : PUnit → sProp 𝕄} (c : Dev nD) (δ : Fin 2) (r : Fin 4) (κ : ℕ) {j : ℕ} (hj : j < 200) {O : CellTallies nD τ sig ℕ} (hO : Above j O) (W : Waits sig ℕ) (k : PR F) :
    iprop(cellInv ER (Rd xs ws) κ (cell c (kO δ)) ∗ levAts L lv ∗ cred (tallyAt (cell c (kO δ)) j NO) ∗ owes (c : Thread nD τ) O W ∗ atPos ER (cell c (kO δ)) r.val ∅ 0)
      ⊢ iprop(((∃ W', owes (c : Thread nD τ) O W') ∗ atPos ER (cell c (kO δ)) (r.val + 1) ∅ 0 ∗ reached ER (cell c (kO δ)) (r.val + 1)
            ∗ gAny c δ ∗ oHas c δ (Fin.ofNat 4 r.val) (outV xs ws δ (Fin.ofNat 4 r.val) c)
          -∗ WP c k Q) -∗ WP c (waitO δ r >>= fun _ => k) Q) :=
  wp_round xs ws c (kO δ) r.val (dutyO r.isLt) κ (wpE_waitDma2_eq 𝒱₀ (c : Thread nD τ) none Set.univ) (credit_o δ r) hj hO W k

/-- A strip's number, read as a strip, is that strip. -/
theorem ofNat_val4 : ∀ r : Fin 4, Fin.ofNat 4 r.val = r := by decide

/-! ## Transfers -/

/-- The transfer of step `s`. -/
theorem wp_sendD {Q : PUnit → sProp 𝕄} (c : Dev nD) (δ : Fin 2) (r : Fin 4) {s : ℕ} (h : s < 7) (κ₁ κ₂ : ℕ) (dst : Dev nD) (hdst : dst = dn δ c) (j : ℕ)
    {O : CellTallies nD τ sig ℕ} (O' : CellTallies nD τ sig ℕ) (hO : O = O' + tallyAt (cell (dn δ c) (kR δ r)) j N) (W : Waits sig ℕ) (k : PR F) :
    iprop(cellInv ER (Rd xs ws) κ₁ (cell c (kS δ r)) ∗ cellInv ER (Rd xs ws) κ₂ (cell (dn δ c) (kR δ r)) ∗ sbHas c δ r (sent xs ws δ r s c) ∗ rbAny (dn δ c) δ r
        ∗ owes (c : Thread nD τ) O W ∗ dutyTok ER (cell c (kS δ r)) s 0 ∗ reached ER (cell c (kS δ r)) s
        ∗ dutyTok ER (cell (dn δ c) (kR δ r)) s 0 ∗ reached ER (cell (dn δ c) (kR δ r)) s)
      ⊢ iprop((cred (tallyAt (cell c (kS δ r)) 0 N) ∗ owes (c : Thread nD τ) O' W -∗ WP c k Q) -∗ WP c (sendD δ r dst >>= fun _ => k) Q) := by
  subst hdst
  unfold sbHas rbAny slot owns
  iintro ⟨#HI1, #HI2, ⟨%fs, %hfs, Hs⟩, ⟨%fd, Hd⟩, Ho, Ht1, #Hr1, Ht2, #Hr2⟩
  iapply (Rounds.wp_send_pointsTo 𝒱₀ ER (Rd xs ws) (c : Thread nD τ) none (κ₁ := κ₁) (κ₂ := κ₂) (c' := (dn δ c : Thread nD τ))
    (src := sbS δ r) (dst := rbS δ r) (sS := .dma (sendS δ r)) (sem := .dma (recvS δ r)) (k := fun _ => k) (q := fullShare) (fs := fs) (fd := fd)
    (r₁ := s) (r₂ := s) (d₁ := 0) (d₂ := 0)
    (by show 0 ∈ (Rd xs ws).duties (cell c (kS δ r)) s; rw [Rd_duties, dutyS h]; exact Finset.mem_singleton_self _)
    (by show 0 ∈ (Rd xs ws).duties (cell (dn δ c) (kR δ r)) s; rw [Rd_duties, dutyR h]; exact Finset.mem_singleton_self _)
    j 0 N (credit_rb δ r) (Rd_amount xs ws c (kS δ r) s 0) (Rd_amount xs ws (dn δ c) (kR δ r) s 0) O' hO (W := W) ?_ ?_) $$ [Hs Hd Ho Ht1 Ht2]
  · show _ ⊢ (Rd xs ws).payload (cell c (kS δ r)) s 0
    rw [Rd_payload]
    show _ ⊢ slot ((sbV δ r).view.loc (c : Thread nD τ)) (sbV δ r).view.set
    unfold slot
    iintro H; iexists fs
    rw [show (sbS δ r).view.set = (sbV δ r).view.set from View.set_reshape _ _]
    iexact H
  · show _ ⊢ (Rd xs ws).payload (cell (dn δ c) (kR δ r)) s 0
    rw [Rd_payload]
    show _ ⊢ rbHas (dn δ c) δ r (sent xs ws δ r s (up δ (dn δ c)))
    rw [up_dn, ← hfs]
    unfold rbHas owns
    iintro H; iexists _
    isplitr
    swap
    · rw [show (rbS δ r).view.set = (rbV δ r).view.set from View.set_reshape _ _]
      iexact H
    · ipureintro
      exact read_write_reshape (rbV δ r).view (sbV δ r).view _ fd fs
  · isplitr; · iexact HI1
    isplitr; · iexact HI2
    isplitl [Hs]
    · rw [show (sbS δ r).view.set = (sbV δ r).view.set from View.set_reshape _ _]; iexact Hs
    isplitl [Hd]
    · rw [show (rbS δ r).view.set = (rbV δ r).view.set from View.set_reshape _ _]; iexact Hd
    isplitl [Ho]; · iexact Ho
    isplitl [Ht1]; · iexact Ht1
    isplitr; · iexact Hr1
    isplitl [Ht2]; · iexact Ht2
    iexact Hr2

/-- The copy of a finished strip. -/
theorem wp_copyO {Q : PUnit → sProp 𝕄} (c : Dev nD) (δ : Fin 2) (r : Fin 4) (κ : ℕ) (k : PR F) :
    iprop(cellInv ER (Rd xs ws) κ (cell c (kO δ)) ∗ gHas c δ (finalV xs ws δ r c) ∗ oAny c δ r ∗ dutyTok ER (cell c (kO δ)) r.val 0 ∗ reached ER (cell c (kO δ)) r.val)
      ⊢ iprop((cred (tallyAt (cell c (kO δ)) 0 NO) -∗ WP c k Q) -∗ WP c (copyO δ r >>= fun _ => k) Q) := by
  unfold gHas oAny slot owns
  iintro ⟨#HI1, ⟨%fs, %hfs, Hs⟩, ⟨%fd, Hd⟩, Ht1, #Hr1⟩
  iapply (Rounds.wp_copy_pointsTo 𝒱₀ ER (Rd xs ws) (c : Thread nD τ) none (κ := κ)
    (src := gS δ) (dst := oS δ r) (sem := .dma (outS δ)) (k := fun _ => k) (q := fullShare) (fs := fs) (fd := fd) (r := r.val) (d := 0)
    (by show 0 ∈ (Rd xs ws).duties (cell c (kO δ)) r.val; rw [Rd_duties, dutyO r.isLt]; exact Finset.mem_singleton_self _)
    0 NO (credit_o δ r) (Rd_amount xs ws c (kO δ) r.val 0) ?_) $$ [Hs Hd Ht1]
  · show _ ⊢ (Rd xs ws).payload (cell c (kO δ)) r.val 0
    rw [Rd_payload]
    show _ ⊢ iprop(gAny c δ ∗ oHas c δ (Fin.ofNat 4 r.val) (outV xs ws δ (Fin.ofNat 4 r.val) c))
    have hr : Fin.ofNat 4 r.val = r := ofNat_val4 r
    rw [hr]
    unfold gAny slot oHas owns
    iintro ⟨Ho, Hg⟩
    isplitl [Hg]
    · iexists fs
      rw [show (gS δ).view.set = (gV δ).view.set from View.set_reshape _ _]
      iexact Hg
    · iexists _
      isplitr
      swap
      · iexact Ho
      · ipureintro
        rw [View.read_write_univ]
        unfold outV
        rw [← hfs]
        rfl
  · isplitr; · iexact HI1
    isplitl [Hs]
    · rw [show (gS δ).view.set = (gV δ).view.set from View.set_reshape _ _]; iexact Hs
    isplitl [Hd]; · iexact Hd
    isplitl [Ht1]; · iexact Ht1
    iexact Hr1

/-! ## Credits -/

/-- Giving credit `n` upstream. -/
theorem wp_credit {Q : PUnit → sProp 𝕄} (c : Dev nD) (δ : Fin 2) {n : ℕ} (h : n < 24) (κ : ℕ) (dst : Dev nD) (hdst : dst = up δ c) (j : ℕ)
    {O : CellTallies nD τ sig ℕ} (O' : CellTallies nD τ sig ℕ) (hO : O = O' + tallyAt (cell (up δ c) (kC δ)) j 1) (W : Waits sig ℕ) (k : PR F) :
    iprop(cellInv ER (Rd xs ws) κ (cell (up δ c) (kC δ)) ∗ owes (c : Thread nD τ) O W ∗ dutyTok ER (cell (up δ c) (kC δ)) 0 n
        ∗ (bigSep (Finset.range (n + 1)) fun i => factF c δ (Fin.ofNat 4 i) (i / 4 + 1)) ∗ reached ER (cell (up δ c) (kC δ)) 0)
      ⊢ iprop((owes (c : Thread nD τ) O' W -∗ WP c k Q) -∗ WP c (semSignalWord dst (credS δ) 1#32 >>= fun _ => k) Q) := by
  subst hdst
  have hp : (Rd xs ws).payload ((up δ c : Thread nD τ), .reg (credS δ)) 0 n = bigSep (Finset.range (n + 1)) fun i => factF (F := F) c δ (Fin.ofNat 4 i) (i / 4 + 1) := by
    refine (Rd_payload xs ws (up δ c) (kC δ) 0 n).trans ?_
    show bigSep (Finset.range (n + 1)) (fun i => factF (F := F) (dn δ (up δ c)) δ (Fin.ofNat 4 i) (i / 4 + 1)) = _
    rw [dn_up]
  iintro ⟨#HI, Ho, Ht, #HF, #Hr⟩
  iapply (Rounds.wp_signal 𝒱₀ ER (Rd xs ws) (c : Thread nD τ) none (dst := (up δ c : Thread nD τ)) (sem := credS δ) (κ := κ) (r := 0) (d := n) (k := fun _ => k)
    (by show n ∈ (Rd xs ws).duties (cell (up δ c) (kC δ)) 0; rw [Rd_duties]; exact Finset.mem_range.mpr h)
    (Rd_amount xs ws (up δ c) (kC δ) 0 n) j O' hO (W := W)) $$ [Ho Ht]
  · isplitr; · iexact HI
    isplitl [Ho]; · iexact Ho
    isplitl [Ht]; · iexact Ht
    isplitr
    · rw [hp]; iexact HF
    iexact Hr

/-- What the credits taken so far leave: at least as many duties have paid as units were consumed, and each one's knowledge is kept. -/
def credAt (c : Dev nD) (δ : Fin 2) (n : ℕ) : sProp 𝕄 :=
  iprop(∃ T : Finset ℕ, ⌜T ⊆ Finset.range 24 ∧ n ≤ T.card⌝ ∗ atPos ER (cell c (kC δ)) 0 T n
    ∗ bigSep T fun d => bigSep (Finset.range (d + 1)) fun i => factF (F := F) (dn δ c) δ (Fin.ofNat 4 i) (i / 4 + 1))

/-- Taking unit `n` of the credits: the receive slot downstream that credit `n` speaks of is free, whoever paid the unit. -/
theorem wp_take {Q : PUnit → sProp 𝕄} (c : Dev nD) (δ : Fin 2) {n : ℕ} (h : n < 24) (κ : ℕ) {j : ℕ} (hj : j < 200) {O : CellTallies nD τ sig ℕ} (hO : Above j O) (W : Waits sig ℕ) (k : PR F) :
    iprop(cellInv ER (Rd xs ws) κ (cell c (kC δ)) ∗ levAts L lv ∗ cred (tallyAt (cell c (kC δ)) j 1) ∗ owes (c : Thread nD τ) O W ∗ credAt c δ n)
      ⊢ iprop(((∃ W', owes (c : Thread nD τ) O W') ∗ credAt c δ (n + 1) ∗ factF (dn δ c) δ (Fin.ofNat 4 n) (n / 4 + 1) -∗ WP c k Q)
          -∗ WP c (semWaitWord (credS δ) 1#32 >>= fun _ => k) Q) := by
  iintro ⟨#HI, #Hlev, Hc, Ho, HA⟩ Hk
  unfold credAt
  icases HA with ⟨%T, %hT, Hat, #HF⟩
  iapply (Rounds.wp_wait 𝒱₀ ER (Rd xs ws) (c : Thread nD τ) none (sm := csem (kC δ)) (κ := κ) (k := fun _ => k) (k' := 1)
    (wpE_semWait_eq 𝒱₀ (c : Thread nD τ) none Set.univ) (Set.mem_univ _) (cr := Finsupp.single j 1) (O := O) (W := W)
    {(csem (kC δ), j)} (R := 0) (m := n) (T := T) (by simp [Util.total]) (by
      intro x hx
      obtain ⟨i, hi, rfl⟩ := Finset.mem_image.mp hx
      rw [Finset.mem_singleton.mp (Finsupp.support_single_subset hi)]; exact Finset.mem_singleton_self _)) $$ [Hc Ho Hat]
  · isplitr; · iexact HI
    isplitl [Hc]; · iexact Hc
    isplitl [Ho]; · iexact Ho
    isplitr; · iapply (mayWait c (csem (kC δ)) hj hO); iexact Hlev
    iexact Hat
  iintro %S ⟨%hS, Ho, Hat, Hpay⟩
  obtain ⟨h1, h2, h3⟩ := hS
  have h2' : S ⊆ Finset.range 24 := fun x hx => by
    have := h2 hx
    rw [show (Rd xs ws).duties ((c : Thread nD τ), csem (kC δ)) 0 = Finset.range 24 from Rd_duties xs ws c (kC δ) 0] at this
    exact this
  have hcard : n + 1 ≤ S.card := by
    rw [show (Rd xs ws).duties ((c : Thread nD τ), csem (kC δ)) 0 = Finset.range 24 from Rd_duties xs ws c (kC δ) 0,
      show (Rd xs ws).expect ((c : Thread nD τ), csem (kC δ)) 0 = 24 from (Rd_expect xs ws c (kC δ) 0).trans rfl,
      Finset.card_sdiff_of_subset h2', Finset.card_range] at h3
    have := Finset.card_le_card h2'
    rw [Finset.card_range] at this
    omega
  have hpe : bigSep (S \ T) (fun d => (Rd xs ws).payload ((c : Thread nD τ), csem (kC δ)) 0 d)
      = bigSep (S \ T) fun d => bigSep (Finset.range (d + 1)) fun i => factF (F := F) (dn δ c) δ (Fin.ofNat 4 i) (i / 4 + 1) :=
    bigSep_congr fun d _ => Rd_payload xs ws c (kC δ) 0 d
  ihave Hp := (Entails.of_eq hpe) $$ Hpay
  icases Hp with #Hp
  have hall : bigSep S (fun d => bigSep (Finset.range (d + 1)) fun i => factF (F := F) (dn δ c) δ (Fin.ofNat 4 i) (i / 4 + 1))
      = iprop(bigSep T (fun d => bigSep (Finset.range (d + 1)) fun i => factF (F := F) (dn δ c) δ (Fin.ofNat 4 i) (i / 4 + 1))
        ∗ bigSep (S \ T) fun d => bigSep (Finset.range (d + 1)) fun i => factF (F := F) (dn δ c) δ (Fin.ofNat 4 i) (i / 4 + 1)) :=
    bigSep_sdiff_split h1
  ihave HA := (show iprop(bigSep T (fun d => bigSep (Finset.range (d + 1)) fun i => factF (F := F) (dn δ c) δ (Fin.ofNat 4 i) (i / 4 + 1))
        ∗ bigSep (S \ T) fun d => bigSep (Finset.range (d + 1)) fun i => factF (F := F) (dn δ c) δ (Fin.ofNat 4 i) (i / 4 + 1)) ⊢ _ from Entails.of_eq hall.symm) $$ [HF Hp]
  · isplitr; · iexact HF
    iexact Hp
  icases HA with #HA
  have hex : ∃ d ∈ S, n ≤ d := by
    by_contra hno
    have hsub : S ⊆ Finset.range n := fun x hx => Finset.mem_range.mpr (by by_contra hx'; exact hno ⟨x, hx, by omega⟩)
    have := Finset.card_le_card hsub
    rw [Finset.card_range] at this
    omega
  obtain ⟨d, hd, hnd⟩ := hex
  have hone : bigSep S (fun d => bigSep (Finset.range (d + 1)) fun i => factF (F := F) (dn δ c) δ (Fin.ofNat 4 i) (i / 4 + 1))
      ⊢ factF (F := F) (dn δ c) δ (Fin.ofNat 4 n) (n / 4 + 1) :=
    (bigSep_elim hd).trans (bigSep_elim (Φ := fun i => factF (F := F) (dn δ c) δ (Fin.ofNat 4 i) (i / 4 + 1)) (Finset.mem_range.mpr (by omega)))
  iapply Hk
  isplitl [Ho]; · iexists _; iexact Ho
  isplitl [Hat]
  · iexists S
    isplitr; · ipureintro; exact ⟨h2', hcard⟩
    isplitl [Hat]; · iexact Hat
    iexact HA
  iapply hone; iexact HA

end Cert.KernelIdeal.Ring

end
-- ==== Proof.Steps.lean ====
/-
# The three kinds of phase

The state a strip's ring, a direction's credits and a direction's finished strips are in between phases, and one triple per
kind of phase that moves them on.
-/
module

public import proofs.«01_k».proof.Proof.Ops

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg Window BodyObligation cellOf)

variable {F : FTy → Type} [FloatOps F]

local notation "𝕄" => MT nD τ sig ℕ (Elt F) ℕ UU ℕ

variable (xs : Dev nD → (cc0_stg0_0 : Ref sig .tc).ty.Contents (Elt F)) (ws : Dev nD → (cc0_stg1_0 : Ref sig .tc).ty.Contents (Elt F))

variable (Kn : Dev nD × CK → ℕ) (In : SlotKey → ℕ)

instance : DecidableEq (Dev nD) := inferInstance
instance : DecidableEq CK := inferInstance
instance : DecidableEq (Dev nD × CK) := inferInstance

/-- One summand of a sum over everything. -/
theorem take_one {I : Type} [Fintype I] [DecidableEq I] (Φ : I → sProp 𝕄) (i : I) : bigSep Finset.univ Φ ⊢ Φ i := bigSep_elim (Finset.mem_univ i)

/-- What every device knows throughout: the invariants of all cells and slots, that every cell has begun, the levels. -/
def Rec : sProp 𝕄 :=
  iprop((bigSep Finset.univ fun x : Dev nD × CK => cellInv ER (Rd xs ws) (Kn x) (kcell x))
    ∗ (bigSep Finset.univ fun x : Dev nD × CK => reached ER (kcell x) 0)
    ∗ (bigSep Finset.univ fun k : SlotKey => slotInv ES (In k) k (rbAny (F := F) k.1 k.2.1 k.2.2))
    ∗ levAts L lv)

instance Rec_persistent : BI.Persistent (Rec xs ws Kn In) := by unfold Rec; infer_instance

/-- The shared facts give the invariant of each cell. -/
theorem Rec_inv (c : Dev nD) (k : CK) : Rec xs ws Kn In ⊢ cellInv ER (Rd xs ws) (Kn (c, k)) (cell c k) := by
  unfold Rec
  iintro ⟨#H, -, -, -⟩
  iapply (take_one (fun x : Dev nD × CK => cellInv ER (Rd xs ws) (Kn x) (kcell x)) (c, k)); iexact H
/-- They give that every cell has reached round 0. -/
theorem Rec_reached (c : Dev nD) (k : CK) : Rec xs ws Kn In ⊢ reached ER (cell c k) 0 := by
  unfold Rec
  iintro ⟨-, #H, -, -⟩
  iapply (take_one (fun x : Dev nD × CK => (reached ER (kcell x) 0 : sProp 𝕄)) (c, k)); iexact H
/-- They give the invariant of each receive slot. -/
theorem Rec_slot (c : Dev nD) (δ : Fin 2) (r : Fin 4) : Rec xs ws Kn In ⊢ slotInv ES (In (c, (δ, r))) ((c, (δ, r)) : SlotKey) (rbAny (F := F) c δ r) := by
  unfold Rec
  iintro ⟨-, -, #H, -⟩
  iapply (take_one (fun k : SlotKey => (slotInv ES (In k) k (rbAny (F := F) k.1 k.2.1 k.2.2) : sProp 𝕄)) (c, (δ, r))); iexact H
/-- They give the levels. -/
theorem Rec_lev : Rec xs ws Kn In ⊢ levAts L lv := by
  unfold Rec
  iintro ⟨-, -, -, #H⟩; iexact H

/-! ## A strip's ring -/

/-- What step `i` of strip `r` in direction `δ` will be paid with. -/
def tokS (c : Dev nD) (δ : Fin 2) (r : Fin 4) (i : ℕ) : sProp 𝕄 :=
  iprop(dutyTok ER (cell c (kS δ r)) i 0 ∗ dutyTok ER (cell (dn δ c) (kR δ r)) i 0 ∗ writeTok ES ((dn δ c, (δ, r)) : SlotKey) (i + 1))
/-- The index the landing of step `i` is waited for at. -/
abbrev idxR (δ : Fin 2) (r : Fin 4) (i : ℕ) : ℕ := 2 * (8 * i + 2 * r.val + δ.val) + 3
/-- The right to wait for landing `i` of a strip. -/
def crdR (c : Dev nD) (δ : Fin 2) (r : Fin 4) (i : ℕ) : sProp 𝕄 := cred (tallyAt (cell c (kR δ r)) (idxR δ r i) N)

/-- Before step 0; -/
def ring0 (c : Dev nD) (δ : Fin 2) (r : Fin 4) : sProp 𝕄 :=
  iprop(atPos ER (cell c (kS δ r)) 0 ∅ 0 ∗ atPos ER (cell c (kR δ r)) 0 ∅ 0 ∗ readerAt ES ((c, (δ, r)) : SlotKey) 1
    ∗ sbAny c δ r ∗ factF (dn δ c) δ r 0 ∗ bigSep (Finset.Ico 0 7) (tokS c δ r) ∗ bigSep (Finset.Ico 0 7) (crdR c δ r))
/-- after step `t`: its transfer is under way, and its landing is not yet waited for; -/
def ringMid (c : Dev nD) (δ : Fin 2) (r : Fin 4) (t : ℕ) : sProp 𝕄 :=
  iprop(atPos ER (cell c (kS δ r)) t ∅ 0 ∗ atPos ER (cell c (kR δ r)) t ∅ 0 ∗ readerAt ES ((c, (δ, r)) : SlotKey) (t + 1)
    ∗ cred (tallyAt (cell c (kS δ r)) 0 N) ∗ bigSep (Finset.Ico (t + 1) 7) (tokS c δ r) ∗ bigSep (Finset.Ico t 7) (crdR c δ r))
/-- after the last step. -/
def ringEnd (c : Dev nD) (δ : Fin 2) (r : Fin 4) : sProp 𝕄 :=
  iprop(atPos ER (cell c (kS δ r)) 6 ∅ 0 ∗ atPos ER (cell c (kR δ r)) 7 ∅ 0 ∗ cred (tallyAt (cell c (kS δ r)) 0 N) ∗ rbAny c δ r)
/-- The state when `t` of the eight steps are done. -/
def ringSt (c : Dev nD) (δ : Fin 2) (r : Fin 4) : ℕ → sProp 𝕄
  | 0 => ring0 c δ r
  | t + 1 => if t < 7 then ringMid c δ r t else ringEnd c δ r

/-- A direction's credits when `n` of the twenty-four are given and taken. -/
def crI (c : Dev nD) (δ : Fin 2) (i : ℕ) : sProp 𝕄 :=
  iprop(dutyTok ER (cell (up δ c) (kC δ)) 0 i ∗ cred (tallyAt (cell c (kC δ)) (2 * (8 * (i / 4 + 1) + 2 * (i % 4) + δ.val) + 2) 1))
/-- Where device `c` is with the credits of direction `δ` when it has taken `n` of them: the cell itself, the credits to come, and what those taken said. -/
def crSt (c : Dev nD) (δ : Fin 2) (n : ℕ) : sProp 𝕄 :=
  iprop(credAt c δ n ∗ bigSep (Finset.Ico n 24) (crI c δ) ∗ bigSep (Finset.range n) fun i => factF c δ (Fin.ofNat 4 i) (i / 4 + 1))

/-- A direction's strips of the result: strip `i` not yet copied, and copied. -/
def oTodo (c : Dev nD) (δ : Fin 2) (i : ℕ) : sProp 𝕄 := iprop(oAny c δ (Fin.ofNat 4 i) ∗ dutyTok ER (cell c (kO δ)) i 0)
/-- Strip `i` of direction `δ` is finished in the result. -/
def oDone (c : Dev nD) (δ : Fin 2) (i : ℕ) : sProp 𝕄 := oHas c δ (Fin.ofNat 4 i) (outV xs ws δ (Fin.ofNat 4 i) c)
/-- The state with strip `k` next and no copy under way; -/
def outReady (c : Dev nD) (δ : Fin 2) (k : ℕ) : sProp 𝕄 :=
  iprop(atPos ER (cell c (kO δ)) k ∅ 0 ∗ reached ER (cell c (kO δ)) k ∗ gAny c δ ∗ bigSep (Finset.Ico k 4) (oTodo c δ) ∗ bigSep (Finset.range k) (oDone xs ws c δ))
/-- with the copy of strip `k - 1` under way. -/
def outSt (c : Dev nD) (δ : Fin 2) : ℕ → sProp 𝕄
  | 0 => outReady xs ws c δ 0
  | k + 1 => iprop(atPos ER (cell c (kO δ)) k ∅ 0 ∗ cred (tallyAt (cell c (kO δ)) 0 NO) ∗ bigSep (Finset.Ico (k + 1) 4) (oTodo c δ) ∗ bigSep (Finset.range k) (oDone xs ws c δ))

/-- A receive slot has elements. -/
theorem rb_nonempty (δ : Fin 2) (r : Fin 4) : (rbV δ r).view.set.Nonempty := by
  refine Finset.Nonempty.map ?_
  exact ⟨fun a => ⟨0, by revert a; decide⟩, Finset.mem_univ _⟩
/-- A receive slot is not held twice. -/
theorem rbAny_excl (c δ r) : iprop(rbAny (F := F) c δ r ∗ rbAny c δ r) ⊢ iprop(False) := slot_slot_false (rb_nonempty δ r)

/-- A ring's state after its first step and up to its last. -/
theorem ringSt_mid (c : Dev nD) (δ : Fin 2) (r : Fin 4) {t : ℕ} (h : t < 7) : ringSt (F := F) c δ r (t + 1) = ringMid c δ r t := if_pos h
/-- A ring's state after its last step. -/
theorem ringSt_end (c : Dev nD) (δ : Fin 2) (r : Fin 4) : ringSt (F := F) c δ r 8 = ringEnd c δ r := if_neg (α := sProp 𝕄) (t := ringMid c δ r 7) (Nat.lt_irrefl 7)

/-! ## Step 0 -/

/-- The first step of a ring: device `c` sends its own product and pays what it owed for it. -/
theorem wp_ph0 {Q : PUnit → sProp 𝕄} (c : Dev nD) (δ : Fin 2) (r : Fin 4) (dst : Dev nD) (hdst : dst = dn δ c) (j : ℕ)
    {O : CellTallies nD τ sig ℕ} (O' : CellTallies nD τ sig ℕ) (hO : O = O' + tallyAt (cell (dn δ c) (kR δ r)) j N) (k : PR F) :
    iprop(Rec xs ws Kn In ∗ xPts xs c ∗ wPts ws c ∗ (∃ W, owes (c : Thread nD τ) O W) ∗ ringSt c δ r 0)
      ⊢ iprop((xPts xs c ∗ wPts ws c ∗ (∃ W, owes (c : Thread nD τ) O' W) ∗ ringSt c δ r 1 -∗ WP c k Q) -∗ WP c (ph0 c δ r dst k) Q) := by
  rw [show ringSt (F := F) c δ r 1 = ringMid c δ r 0 from ringSt_mid c δ r (by decide), show ringSt (F := F) c δ r 0 = ring0 c δ r from rfl]
  unfold ring0 ringMid ph0
  rw [bigSep_Ico_succ_bot (show 0 < 7 by decide) (tokS (F := F) c δ r)]
  unfold tokS factF
  iintro ⟨#HR, Hx, Hw, ⟨%W, Ho⟩, HaS, HaR, HrA, Hsb, ⟨#Hrel, #HrR⟩, ⟨⟨HtS, HtR, HtW⟩, Hts⟩, Hcs⟩ Hk
  iapply (wp_ldX xs c δ 0 _) $$ Hx
  iintro Hx
  iapply (wp_ldW ws c δ r _) $$ Hw
  iintro Hw
  iapply (wp_ldSb c δ r _) $$ Hsb
  iintro %v0 Hsb
  iapply (wp_stSb c δ r _ _) $$ Hsb
  iintro Hsb
  imod (slot_take ES (Set.mem_univ (In (dn δ c, (δ, r)))) (S := rbAny (F := F) (dn δ c) δ r) 1) $$ [HtW] with Hrb
  · isplitr; · iapply (Rec_slot xs ws Kn In (dn δ c) δ r); iexact HR
    isplitr; · iexact Hrel
    iexact HtW
  iapply (wp_sendD xs ws c δ r (s := 0) (by decide) (Kn (c, kS δ r)) (Kn (dn δ c, kR δ r)) dst hdst j O' hO W k) $$ [Hsb Hrb Ho HtS HtR]
  · isplitr; · iapply (Rec_inv xs ws Kn In c (kS δ r)); iexact HR
    isplitr; · iapply (Rec_inv xs ws Kn In (dn δ c) (kR δ r)); iexact HR
    isplitl [Hsb]; · iexact Hsb
    isplitl [Hrb]; · iexact Hrb
    isplitl [Ho]; · iexact Ho
    isplitl [HtS]; · iexact HtS
    isplitr; · iapply (Rec_reached xs ws Kn In c (kS δ r)); iexact HR
    isplitl [HtR]; · iexact HtR
    iexact HrR
  iintro ⟨HcS, Ho⟩
  iapply Hk
  isplitl [Hx]; · iexact Hx
  isplitl [Hw]; · iexact Hw
  isplitl [Ho]; · iexists W; iexact Ho
  isplitl [HaS]; · iexact HaS
  isplitl [HaR]; · iexact HaR
  isplitl [HrA]; · iexact HrA
  isplitl [HcS]; · iexact HcS
  isplitl [Hts]; · iexact Hts
  iexact Hcs

/-! ## A middle step -/

/-- A middle step of a ring: device `c` takes what arrived, adds its own product, gives and takes a credit, and sends the sum on. -/
theorem wp_phM {Q : PUnit → sProp 𝕄} (c : Dev nD) (δ : Fin 2) (r : Fin 4) {t : ℕ} (ht : t < 6) (u dst : Dev nD) (hu : u = up δ c) (hdst : dst = dn δ c) (j j' : ℕ)
    {O : CellTallies nD τ sig ℕ} (O' : CellTallies nD τ sig ℕ)
    (hO : O = (O' + tallyAt (cell (dn δ c) (kR δ r)) j N) + tallyAt (cell (up δ c) (kC δ)) j' 1)
    (hj' : j' = 2 * (8 * (t + 1) + 2 * r.val + δ.val) + 2) (hab : Above (idxR δ r t) O) (hab' : Above j' (O' + tallyAt (cell (dn δ c) (kR δ r)) j N)) (k : PR F) :
    iprop(Rec xs ws Kn In ∗ xPts xs c ∗ wPts ws c ∗ (∃ W, owes (c : Thread nD τ) O W) ∗ ringSt c δ r (t + 1) ∗ crSt c δ (4 * t + r.val))
      ⊢ iprop((xPts xs c ∗ wPts ws c ∗ (∃ W, owes (c : Thread nD τ) O' W) ∗ ringSt c δ r (t + 2) ∗ crSt c δ (4 * t + r.val + 1) -∗ WP c k Q)
          -∗ WP c (phM c (Fin.ofNat 8 (t + 1)) δ r u dst k) Q) := by
  have hr := r.isLt
  have hδ := δ.isLt
  have hn : 4 * t + r.val < 24 := by omega
  have hof : Fin.ofNat 4 (4 * t + r.val) = r := Fin.ext (by show (4 * t + r.val) % 4 = r.val; omega)
  have hdiv : (4 * t + r.val) / 4 + 1 = t + 1 := by omega
  have hmod : (4 * t + r.val) % 4 = r.val := by omega
  rw [ringSt_mid c δ r (show t < 7 by omega), ringSt_mid c δ r (show t + 1 < 7 by omega)]
  unfold ringMid phM crSt
  rw [bigSep_Ico_succ_bot (show t + 1 < 7 by omega) (tokS (F := F) c δ r), bigSep_Ico_succ_bot (show t < 7 by omega) (crdR (F := F) c δ r),
    bigSep_Ico_succ_bot hn (crI (F := F) c δ), bigSep_range_succ]
  unfold tokS crdR crI
  rw [hof, hdiv, hmod, ← hj']
  iintro ⟨#HR, Hx, Hw, ⟨%W, Ho⟩, ⟨HaS, HaR, HrA, HcS, ⟨⟨HtS, HtR, HtW⟩, Hts⟩, HcR, Hcs⟩, HA, ⟨⟨HtC, HcC⟩, Hci⟩, #HF⟩ Hk
  iapply (wp_ldX xs c δ _ _) $$ Hx
  iintro Hx
  iapply (wp_ldW ws c δ r _) $$ Hw
  iintro Hw
  iapply (wp_waitR xs ws c δ r (s := t) (by omega) (Kn (c, kR δ r)) (j := idxR δ r t) (by unfold idxR; omega) hab W _) $$ [HcR Ho HaR]
  · isplitr; · iapply (Rec_inv xs ws Kn In c (kR δ r)); iexact HR
    isplitr; · iapply (Rec_lev xs ws Kn In); iexact HR
    isplitl [HcR]; · iexact HcR
    isplitl [Ho]; · iexact Ho
    iexact HaR
  iintro ⟨⟨%W1, Ho⟩, HaR, #HrR, Hrb⟩
  iapply (wp_ldRb c δ r _ _) $$ Hrb
  iintro Hrb
  iapply (wp_waitS xs ws c δ r (s := t) (by omega) (Kn (c, kS δ r)) (j := 0) (by omega) (fun g i h => ⟨(hab g i h).1, by have := (hab g i h).2.1; omega, (hab g i h).2.2⟩) W1 _) $$ [HcS Ho HaS]
  · isplitr; · iapply (Rec_inv xs ws Kn In c (kS δ r)); iexact HR
    isplitr; · iapply (Rec_lev xs ws Kn In); iexact HR
    isplitl [HcS]; · iexact HcS
    isplitl [Ho]; · iexact Ho
    iexact HaS
  iintro ⟨⟨%W2, Ho⟩, HaS, #HrS, Hsb⟩
  iapply (wp_ldSb c δ r _) $$ Hsb
  iintro %v0 Hsb
  iapply (wp_stSb c δ r _ _) $$ Hsb
  iintro Hsb
  ihave Hrb := (rbHas_any c δ r _) $$ Hrb
  imod (slot_release ES (Set.mem_univ (In (c, (δ, r)))) (rbAny_excl (F := F) c δ r) (t + 1)) $$ [HrA Hrb] with ⟨HrA, #Hrel⟩
  · isplitr; · iapply (Rec_slot xs ws Kn In c δ r); iexact HR
    isplitl [HrA]; · iexact HrA
    iexact Hrb
  ihave HF1 := (show iprop(released ES ((c, (δ, r)) : SlotKey) (t + 1 + 1) ∗ reached ER (cell c (kR δ r)) (t + 1)) ⊢ factF (F := F) c δ r (t + 1) from by unfold factF; exact .rfl) $$ []
  · isplitr; · iexact Hrel
    iexact HrR
  icases HF1 with #HF1
  iapply (wp_credit xs ws c δ hn (Kn (up δ c, kC δ)) u hu j' (O' + tallyAt (cell (dn δ c) (kR δ r)) j N) hO W2 _) $$ [Ho HtC]
  · isplitr; · iapply (Rec_inv xs ws Kn In (up δ c) (kC δ)); iexact HR
    isplitl [Ho]; · iexact Ho
    isplitl [HtC]; · iexact HtC
    isplitr
    · rw [bigSep_range_succ, hof, hdiv]
      isplitr; · iexact HF1
      iexact HF
    iapply (Rec_reached xs ws Kn In (up δ c) (kC δ)); iexact HR
  iintro Ho
  iapply (wp_take xs ws c δ hn (Kn (c, kC δ)) (j := j') (by omega) hab' W2 _) $$ [HcC Ho HA]
  · isplitr; · iapply (Rec_inv xs ws Kn In c (kC δ)); iexact HR
    isplitr; · iapply (Rec_lev xs ws Kn In); iexact HR
    isplitl [HcC]; · iexact HcC
    isplitl [Ho]; · iexact Ho
    iexact HA
  iintro ⟨⟨%W3, Ho⟩, HA, HFd⟩
  rw [hof, hdiv]
  unfold factF
  icases HFd with ⟨#HrelD, #HrRD⟩
  imod (slot_take ES (Set.mem_univ (In (dn δ c, (δ, r)))) (S := rbAny (F := F) (dn δ c) δ r) (t + 1 + 1)) $$ [HtW] with Hrb
  · isplitr; · iapply (Rec_slot xs ws Kn In (dn δ c) δ r); iexact HR
    isplitr; · iexact HrelD
    iexact HtW
  iapply (wp_sendD xs ws c δ r (s := t + 1) (by omega) (Kn (c, kS δ r)) (Kn (dn δ c, kR δ r)) dst hdst j O' rfl W3 k) $$ [Hsb Hrb Ho HtS HtR]
  · isplitr; · iapply (Rec_inv xs ws Kn In c (kS δ r)); iexact HR
    isplitr; · iapply (Rec_inv xs ws Kn In (dn δ c) (kR δ r)); iexact HR
    isplitl [Hsb]; · iexact Hsb
    isplitl [Hrb]; · iexact Hrb
    isplitl [Ho]; · iexact Ho
    isplitl [HtS]; · iexact HtS
    isplitr; · iexact HrS
    isplitl [HtR]; · iexact HtR
    iexact HrRD
  iintro ⟨HcS, Ho⟩
  iapply Hk
  isplitl [Hx]; · iexact Hx
  isplitl [Hw]; · iexact Hw
  isplitl [Ho]; · iexists W3; iexact Ho
  isplitl [HaS HaR HrA HcS Hts Hcs]
  · isplitl [HaS]; · iexact HaS
    isplitl [HaR]; · iexact HaR
    isplitl [HrA]; · iexact HrA
    isplitl [HcS]; · iexact HcS
    isplitl [Hts]; · iexact Hts
    iexact Hcs
  isplitl [HA]; · iexact HA
  isplitl [Hci]; · iexact Hci
  isplitr; · iexact HF1
  iexact HF

/-! ## The last step -/

/-- The wait for the copy under way. -/
theorem wp_outStep {Q : PUnit → sProp 𝕄} (c : Dev nD) (δ : Fin 2) (r : Fin 4) {O : CellTallies nD τ sig ℕ} (hab : Above 0 O) (k : PR F) :
    iprop(Rec xs ws Kn In ∗ (∃ W, owes (c : Thread nD τ) O W) ∗ outSt xs ws c δ (r.val + 1))
      ⊢ iprop(((∃ W, owes (c : Thread nD τ) O W) ∗ outReady xs ws c δ (r.val + 1) -∗ WP c k Q) -∗ WP c (waitO δ r >>= fun _ => k) Q) := by
  rw [show outSt xs ws c δ (r.val + 1) = iprop(atPos ER (cell c (kO δ)) r.val ∅ 0 ∗ cred (tallyAt (cell c (kO δ)) 0 NO)
    ∗ bigSep (Finset.Ico (r.val + 1) 4) (oTodo c δ) ∗ bigSep (Finset.range r.val) (oDone xs ws c δ)) from rfl]
  unfold outReady
  rw [bigSep_range_succ]
  iintro ⟨#HR, ⟨%W, Ho⟩, Ha, Hc, Hto, Hdo⟩ Hk
  iapply (wp_waitO xs ws c δ r (Kn (c, kO δ)) (j := 0) (by omega) hab W _) $$ [Hc Ho Ha]
  · isplitr; · iapply (Rec_inv xs ws Kn In c (kO δ)); iexact HR
    isplitr; · iapply (Rec_lev xs ws Kn In); iexact HR
    isplitl [Hc]; · iexact Hc
    isplitl [Ho]; · iexact Ho
    iexact Ha
  iintro ⟨Ho, Ha, Hr, Hg, Hn⟩
  iapply Hk
  isplitl [Ho]; · iexact Ho
  isplitl [Ha]; · iexact Ha
  isplitl [Hr]; · iexact Hr
  isplitl [Hg]; · iexact Hg
  isplitl [Hto]; · iexact Hto
  isplitl [Hn]; · unfold oDone; rw [ofNat_val4]; iexact Hn
  iexact Hdo

/-- The wait before a finished strip is staged: after it the staging slot is free and the earlier strips are finished. -/
theorem wp_waitPrev {Q : PUnit → sProp 𝕄} (c : Dev nD) (δ : Fin 2) (r : Fin 4) {O : CellTallies nD τ sig ℕ} (hab : Above 0 O) (k : PR F) :
    iprop(Rec xs ws Kn In ∗ (∃ W, owes (c : Thread nD τ) O W) ∗ outSt xs ws c δ r.val)
      ⊢ iprop(((∃ W, owes (c : Thread nD τ) O W) ∗ outReady xs ws c δ r.val -∗ WP c k Q) -∗ WP c (waitPrev δ r k) Q) :=
  match r with
  | 0 => by
    iintro ⟨-, Ho, Hs⟩ Hk
    iapply Hk
    isplitl [Ho]; · iexact Ho
    iapply (show outSt xs ws c δ 0 ⊢ outReady xs ws c δ 0 from .rfl); iexact Hs
  | 1 => wp_outStep xs ws Kn In c δ 0 hab k
  | 2 => wp_outStep xs ws Kn In c δ 1 hab k
  | 3 => wp_outStep xs ws Kn In c δ 2 hab k

/-- The last step of a ring: device `c` adds its own product, applies the activation and starts the copy to the result. -/
theorem wp_phL {Q : PUnit → sProp 𝕄} (c : Dev nD) (δ : Fin 2) (r : Fin 4) {O : CellTallies nD τ sig ℕ} (hab : Above (idxR δ r 6) O) (k : PR F) :
    iprop(Rec xs ws Kn In ∗ xPts xs c ∗ wPts ws c ∗ (∃ W, owes (c : Thread nD τ) O W) ∗ ringSt c δ r 7 ∗ outSt xs ws c δ r.val)
      ⊢ iprop((xPts xs c ∗ wPts ws c ∗ (∃ W, owes (c : Thread nD τ) O W) ∗ ringSt c δ r 8 ∗ outSt xs ws c δ (r.val + 1) -∗ WP c k Q)
          -∗ WP c (phL c δ r k) Q) := by
  have hr := r.isLt
  have hδ := δ.isLt
  rw [show ringSt (F := F) c δ r 7 = ringMid c δ r 6 from ringSt_mid c δ r (by decide), ringSt_end c δ r,
    show outSt xs ws c δ (r.val + 1) = iprop(atPos ER (cell c (kO δ)) r.val ∅ 0 ∗ cred (tallyAt (cell c (kO δ)) 0 NO)
      ∗ bigSep (Finset.Ico (r.val + 1) 4) (oTodo c δ) ∗ bigSep (Finset.range r.val) (oDone xs ws c δ)) from rfl]
  unfold ringMid ringEnd phL
  rw [bigSep_Ico_one]
  unfold crdR
  iintro ⟨#HR, Hx, Hw, ⟨%W, Ho⟩, ⟨HaS, HaR, -, HcS, -, HcR⟩, Hout⟩ Hk
  iapply (wp_ldX xs c δ _ _) $$ Hx
  iintro Hx
  iapply (wp_ldW ws c δ r _) $$ Hw
  iintro Hw
  iapply (wp_waitR xs ws c δ r (s := 6) (by omega) (Kn (c, kR δ r)) (j := idxR δ r 6) (by unfold idxR; omega) hab W _) $$ [HcR Ho HaR]
  · isplitr; · iapply (Rec_inv xs ws Kn In c (kR δ r)); iexact HR
    isplitr; · iapply (Rec_lev xs ws Kn In); iexact HR
    isplitl [HcR]; · iexact HcR
    isplitl [Ho]; · iexact Ho
    iexact HaR
  iintro ⟨Ho, HaR, -, Hrb⟩
  iapply (wp_ldRb c δ r _ _) $$ Hrb
  iintro Hrb
  iapply (wp_waitPrev xs ws Kn In c δ r (fun g i h => ⟨(hab g i h).1, by have := (hab g i h).2.1; omega, (hab g i h).2.2⟩) _) $$ [Ho Hout]
  · isplitr; · iexact HR
    isplitl [Ho]; · iexact Ho
    iexact Hout
  unfold outReady
  rw [bigSep_Ico_succ_bot hr (oTodo (F := F) c δ)]
  unfold oTodo
  rw [ofNat_val4]
  iintro ⟨Ho, Ha, #Hr, Hg, ⟨⟨Hoa, Ht⟩, Hto⟩, Hdo⟩
  iapply (wp_ldG c δ _) $$ Hg
  iintro %v0 Hg
  iapply (wp_stG c δ _ _) $$ Hg
  iintro Hg
  iapply (wp_copyO xs ws c δ r (Kn (c, kO δ)) k) $$ [Hg Hoa Ht]
  · isplitr; · iapply (Rec_inv xs ws Kn In c (kO δ)); iexact HR
    isplitl [Hg]; · iexact Hg
    isplitl [Hoa]; · iexact Hoa
    isplitl [Ht]; · iexact Ht
    iexact Hr
  iintro Hc
  iapply Hk
  isplitl [Hx]; · iexact Hx
  isplitl [Hw]; · iexact Hw
  isplitl [Ho]; · iexact Ho
  isplitl [HaS HaR HcS Hrb]
  · isplitl [HaS]; · iexact HaS
    isplitl [HaR]; · iexact HaR
    isplitl [HcS]; · iexact HcS
    iapply (rbHas_any c δ r _); iexact Hrb
  isplitl [Ha]; · iexact Ha
  isplitl [Hc]; · iexact Hc
  isplitl [Hto]; · iexact Hto
  iexact Hdo

end Cert.KernelIdeal.Ring

end
-- ==== Proof.Sched.lean ====
/-
# The schedule

The state a device is in after its first `p` phases, that one phase takes the state at `p` to the state at `p + 1`, and
what is left after all sixty-four and the closing waits.
-/
module

public import proofs.«01_k».proof.Proof.Steps
public import Idealize.ShloMosaic.Lib.Rounds.Family
public import Idealize.ShloMosaic.Lib.Pipeline.BigSepL

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg Window BodyObligation cellOf)

variable {F : FTy → Type} [FloatOps F]

local notation "𝕄" => MT nD τ sig ℕ (Elt F) ℕ UU ℕ

variable (xs : Dev nD → (cc0_stg0_0 : Ref sig .tc).ty.Contents (Elt F)) (ws : Dev nD → (cc0_stg1_0 : Ref sig .tc).ty.Contents (Elt F))

variable (Kn : Dev nD × CK → ℕ) (In : SlotKey → ℕ)

/-! ## The state after `p` phases -/

/-- How many of its eight steps a strip's ring has taken after `p` phases, -/
def stage (p : ℕ) (ρ : Fin 2 × Fin 4) : ℕ := (p + 7 - (2 * ρ.2.val + ρ.1.val)) / 8
/-- how many credits a direction has given and taken, -/
def ncr (p : ℕ) (δ : Fin 2) : ℕ := (min p 56 - 8 + 1 - δ.val) / 2
/-- how many strips of the result it has begun to copy. -/
def nout (p : ℕ) (δ : Fin 2) : ℕ := (p - 56 + 1 - δ.val) / 2

/-- The states of the eight rings before phase `p`. -/
def rings (c : Dev nD) (p : ℕ) : sProp 𝕄 := bigSep Finset.univ fun ρ : Fin 2 × Fin 4 => ringSt c ρ.1 ρ.2 (stage p ρ)
/-- The states of the two credit cells before phase `p`. -/
def crs (c : Dev nD) (p : ℕ) : sProp 𝕄 := bigSep Finset.univ fun δ : Fin 2 => crSt c δ (ncr p δ)
/-- The states of the two copy cells before phase `p`. -/
def outs (c : Dev nD) (p : ℕ) : sProp 𝕄 := bigSep Finset.univ fun δ : Fin 2 => outSt xs ws c δ (nout p δ)
/-- What the device still owes after `p` phases, at some set of waits made. -/
def owesAt (c : Dev nD) (O : CellTallies nD τ sig ℕ) : sProp 𝕄 := iprop(∃ W, owes (c : Thread nD τ) O W)
/-- All that device `c` holds before phase `p`. -/
def St (c : Dev nD) (p : ℕ) : sProp 𝕄 :=
  iprop(xPts xs c ∗ wPts ws c ∗ owesAt c (owed c p) ∗ rings c p ∗ crs c p ∗ outs xs ws c p)

/-- The direction of phase `p` alternates. -/
theorem pδ_val (p : ℕ) : (pδ p).val = p % 2 := rfl
/-- The strip of phase `p` changes every two phases. -/
theorem pr_val (p : ℕ) : (pr p).val = p / 2 % 4 := rfl

/-- The ring of phase `p` taken out, and put back one step further. -/
theorem rings_step (c : Dev nD) {p : ℕ} (s : ℕ) (hs : s = p / 8) :
    rings c p ⊢ iprop(ringSt c (pδ p) (pr p) s ∗ (ringSt c (pδ p) (pr p) (s + 1) -∗ rings (F := F) c (p + 1))) := by
  have h := pδ_val p; have h' := pr_val p
  have e1 : stage p (pδ p, pr p) = s := by show (p + 7 - (2 * (pr p).val + (pδ p).val)) / 8 = s; omega
  have e2 : stage (p + 1) (pδ p, pr p) = s + 1 := by show (p + 1 + 7 - (2 * (pr p).val + (pδ p).val)) / 8 = s + 1; omega
  have := bigSep_univ_update (Φ := fun ρ : Fin 2 × Fin 4 => ringSt (F := F) c ρ.1 ρ.2 (stage p ρ))
    (Ψ := fun ρ : Fin 2 × Fin 4 => ringSt (F := F) c ρ.1 ρ.2 (stage (p + 1) ρ)) (pδ p, pr p) (fun ρ hρ => by
      have : stage (p + 1) ρ = stage p ρ := by
        have h1 := ρ.1.isLt; have h2 := ρ.2.isLt
        have h3 : ¬(ρ.1.val = p % 2 ∧ ρ.2.val = p / 2 % 4) := fun ⟨a, b⟩ => hρ (Prod.ext (Fin.ext a) (Fin.ext b))
        unfold stage; omega
      show ringSt c ρ.1 ρ.2 (stage (p + 1) ρ) = ringSt c ρ.1 ρ.2 (stage p ρ)
      rw [this])
  rw [e1, e2] at this
  exact this

/-- A middle phase takes one credit, that of its direction. -/
theorem crs_step (c : Dev nD) {p : ℕ} (hp : 8 ≤ p) (hp' : p < 56) (n : ℕ) (hn : n = 4 * (p / 8 - 1) + p / 2 % 4) :
    crs c p ⊢ iprop(crSt c (pδ p) n ∗ (crSt c (pδ p) (n + 1) -∗ crs (F := F) c (p + 1))) := by
  have h := pδ_val p
  have e1 : ncr p (pδ p) = n := by unfold ncr; omega
  have e2 : ncr (p + 1) (pδ p) = n + 1 := by unfold ncr; omega
  have := bigSep_univ_update (Φ := fun δ : Fin 2 => crSt (F := F) c δ (ncr p δ))
    (Ψ := fun δ : Fin 2 => crSt (F := F) c δ (ncr (p + 1) δ)) (pδ p) (fun δ hδ => by
      have : ncr (p + 1) δ = ncr p δ := by
        have h1 := δ.isLt
        have h3 : ¬(δ.val = p % 2) := fun a => hδ (Fin.ext a)
        unfold ncr; omega
      show crSt c δ (ncr (p + 1) δ) = crSt c δ (ncr p δ)
      rw [this])
  rw [e1, e2] at this
  exact this

/-- The other phases leave the credits as they are. -/
theorem crs_same (c : Dev nD) {p : ℕ} (hp : p < 8 ∨ 56 ≤ p) : crs (F := F) c (p + 1) = crs c p := by
  unfold crs
  refine bigSep_congr fun δ _ => ?_
  have h1 := δ.isLt
  have : ncr (p + 1) δ = ncr p δ := by unfold ncr; omega
  rw [this]

/-- A last-step phase starts one copy, that of its direction. -/
theorem outs_step (c : Dev nD) {p : ℕ} (hp : 56 ≤ p) (hp' : p < 64) (n : ℕ) (hn : n = p / 2 % 4) :
    outs xs ws c p ⊢ iprop(outSt xs ws c (pδ p) n ∗ (outSt xs ws c (pδ p) (n + 1) -∗ outs xs ws c (p + 1))) := by
  have h := pδ_val p
  have e1 : nout p (pδ p) = n := by unfold nout; omega
  have e2 : nout (p + 1) (pδ p) = n + 1 := by unfold nout; omega
  have := bigSep_univ_update (Φ := fun δ : Fin 2 => outSt xs ws c δ (nout p δ))
    (Ψ := fun δ : Fin 2 => outSt xs ws c δ (nout (p + 1) δ)) (pδ p) (fun δ hδ => by
      have : nout (p + 1) δ = nout p δ := by
        have h1 := δ.isLt
        have h3 : ¬(δ.val = p % 2) := fun a => hδ (Fin.ext a)
        unfold nout; omega
      show outSt xs ws c δ (nout (p + 1) δ) = outSt xs ws c δ (nout p δ)
      rw [this])
  rw [e1, e2] at this
  exact this

/-- The earlier phases start none. -/
theorem outs_same (c : Dev nD) {p : ℕ} (hp : p < 56) : outs xs ws c (p + 1) = outs xs ws c p := by
  unfold outs
  refine bigSep_congr fun δ _ => ?_
  have h1 := δ.isLt
  have : nout (p + 1) δ = nout p δ := by unfold nout; omega
  rw [this]

/-! ## One phase -/

/-- Phase `p` takes the state before it to the state before the next. -/
theorem wp_phase {Q : PUnit → sProp 𝕄} (c : Dev nD) {p : ℕ} (hp : p < 64) (k : PR F) :
    iprop(Rec xs ws Kn In ∗ St xs ws c p) ⊢ iprop((St xs ws c (p + 1) -∗ WP c k Q) -∗ WP c (phase c p k) Q) := by
  have hδ := pδ_val p; have hr := pr_val p
  unfold St phase owesAt
  by_cases h8 : p < 8
  · rw [if_pos h8, crs_same c (.inl h8), outs_same xs ws c (show p < 56 by omega)]
    iintro ⟨#HR, Hx, Hw, Ho, Hr, Hc, Hout⟩ Hk
    ihave Hr := (rings_step (F := F) c 0 (by omega)) $$ Hr
    icases Hr with ⟨Hr, Hrs⟩
    iapply (wp_ph0 xs ws Kn In c (pδ p) (pr p) _ (devAt_ph0 c ⟨p, h8⟩) (2 * p + 3) (owed c (p + 1))
      ((owed_step c (show p < 56 by omega)).trans (by rw [show dueC c p = 0 from if_neg (by omega), add_zero]; rfl)) k) $$ [Hx Hw Ho Hr]
    · isplitr; · iexact HR
      isplitl [Hx]; · iexact Hx
      isplitl [Hw]; · iexact Hw
      isplitl [Ho]; · iexact Ho
      iexact Hr
    iintro ⟨Hx, Hw, Ho, Hr⟩
    iapply Hk
    isplitl [Hx]; · iexact Hx
    isplitl [Hw]; · iexact Hw
    isplitl [Ho]; · iexact Ho
    isplitl [Hr Hrs]; · iapply Hrs; iexact Hr
    isplitl [Hc]; · iexact Hc
    iexact Hout
  by_cases h56 : p < 56
  · obtain ⟨t, ht⟩ : ∃ t, p / 8 = t + 1 := ⟨p / 8 - 1, by omega⟩
    have hd := devAt_phM c ⟨p - 8, by omega⟩
    rw [show (⟨p - 8, by omega⟩ : Fin 48).val + 8 = p from by show p - 8 + 8 = p; omega] at hd
    rw [if_neg h8, if_pos h56, outs_same xs ws c h56, show Fin.ofNat 8 (p / 8) = Fin.ofNat 8 (t + 1) from by rw [ht]]
    iintro ⟨#HR, Hx, Hw, Ho, Hr, Hc, Hout⟩ Hk
    ihave Hr := (rings_step (F := F) c (t + 1) ht.symm) $$ Hr
    icases Hr with ⟨Hr, Hrs⟩
    ihave Hc := (crs_step (F := F) c (show 8 ≤ p by omega) h56 (4 * t + (pr p).val) (by omega)) $$ Hc
    icases Hc with ⟨Hc, Hcs⟩
    iapply (wp_phM xs ws Kn In c (pδ p) (pr p) (t := t) (by omega) _ _ hd.1 hd.2 (2 * p + 3) (2 * p + 2) (owed c (p + 1))
      ((owed_step c h56).trans (by rw [show dueC c p = tallyAt (cell (up (pδ p) c) (kC (pδ p))) (2 * p + 2) 1 from if_pos (by omega)]; rfl))
      (by omega) (above_owed c (by unfold idxR; omega)) (above_add (above_owed c (by omega)) (above_tally _ _ (by omega) (by omega))) k) $$ [Hx Hw Ho Hr Hc]
    · isplitr; · iexact HR
      isplitl [Hx]; · iexact Hx
      isplitl [Hw]; · iexact Hw
      isplitl [Ho]; · iexact Ho
      isplitl [Hr]; · iexact Hr
      iexact Hc
    iintro ⟨Hx, Hw, Ho, Hr, Hc⟩
    iapply Hk
    isplitl [Hx]; · iexact Hx
    isplitl [Hw]; · iexact Hw
    isplitl [Ho]; · iexact Ho
    isplitl [Hr Hrs]; · iapply Hrs; iexact Hr
    isplitl [Hc Hcs]; · iapply Hcs; iexact Hc
    iexact Hout
  · rw [if_neg h8, if_neg h56, crs_same c (.inr (by omega)), owed_end c (show 56 ≤ p by omega), owed_end c (show 56 ≤ p + 1 by omega)]
    iintro ⟨#HR, Hx, Hw, Ho, Hr, Hc, Hout⟩ Hk
    ihave Hr := (rings_step (F := F) c 7 (by omega)) $$ Hr
    icases Hr with ⟨Hr, Hrs⟩
    ihave Hout := (outs_step xs ws c (show 56 ≤ p by omega) hp (pr p).val (by omega)) $$ Hout
    icases Hout with ⟨Hout, Hos⟩
    iapply (wp_phL xs ws Kn In c (pδ p) (pr p) (above_zero _) k) $$ [Hx Hw Ho Hr Hout]
    · isplitr; · iexact HR
      isplitl [Hx]; · iexact Hx
      isplitl [Hw]; · iexact Hw
      isplitl [Ho]; · iexact Ho
      isplitl [Hr]; · iexact Hr
      iexact Hout
    iintro ⟨Hx, Hw, Ho, Hr, Hout⟩
    iapply Hk
    isplitl [Hx]; · iexact Hx
    isplitl [Hw]; · iexact Hw
    isplitl [Ho]; · iexact Ho
    isplitl [Hr Hrs]; · iapply Hrs; iexact Hr
    isplitl [Hc]; · iexact Hc
    iapply Hos; iexact Hout

/-- All phases: the last `n` of them from the state before them to the state after the sixty-fourth. -/
theorem wp_phases {Q : PUnit → sProp 𝕄} (c : Dev nD) : ∀ n : ℕ, n ≤ 64 →
    (iprop(Rec xs ws Kn In ∗ St xs ws c (64 - n)) ⊢ iprop((St xs ws c 64 -∗ WP c closing Q) -∗ WP c (phases c n) Q))
  | 0, _ => by
    iintro ⟨-, H⟩ Hk
    iapply Hk; iexact H
  | n + 1, hn => by
    iintro ⟨#HR, H⟩ Hk
    iapply (show WP c (phase c (63 - n) (phases c n)) Q ⊢ WP c (phases c (n + 1)) Q from .rfl)
    iapply (wp_phase xs ws Kn In c (p := 63 - n) (by omega) (phases c n)) $$ [H]
    · isplitr; · iexact HR
      rw [show 64 - (n + 1) = 63 - n from by omega]
      iexact H
    rw [show 63 - n + 1 = 64 - n from by omega]
    iintro H
    iapply (wp_phases c n (by omega)) $$ [H]
    · isplitr; · iexact HR
      iexact H
    iexact Hk

/-! ## The closing waits -/

/-- A strip's ring with everything waited for. -/
def ringDone (c : Dev nD) (δ : Fin 2) (r : Fin 4) : sProp 𝕄 :=
  iprop(atPos ER (cell c (kS δ r)) 7 ∅ 0 ∗ atPos ER (cell c (kR δ r)) 7 ∅ 0 ∗ sbAny c δ r ∗ rbAny c δ r)

/-- The closing wait on a send: the send slot comes back and the cell is at its end. -/
theorem wp_closeS {Q : PUnit → sProp 𝕄} (c : Dev nD) (δ : Fin 2) (r : Fin 4) (k : PR F) :
    iprop(Rec xs ws Kn In ∗ owesAt c 0 ∗ ringEnd c δ r)
      ⊢ iprop((owesAt c 0 ∗ ringDone c δ r -∗ WP c k Q) -∗ WP c (waitS δ r >>= fun _ => k) Q) := by
  unfold ringEnd ringDone owesAt
  iintro ⟨#HR, ⟨%W, Ho⟩, HaS, HaR, Hc, Hrb⟩ Hk
  iapply (wp_waitS xs ws c δ r (s := 6) (by omega) (Kn (c, kS δ r)) (j := 0) (by omega) (above_zero _) W k) $$ [Hc Ho HaS]
  · isplitr; · iapply (Rec_inv xs ws Kn In c (kS δ r)); iexact HR
    isplitr; · iapply (Rec_lev xs ws Kn In); iexact HR
    isplitl [Hc]; · iexact Hc
    isplitl [Ho]; · iexact Ho
    iexact HaS
  iintro ⟨Ho, HaS, -, Hsb⟩
  iapply Hk
  isplitl [Ho]; · iexact Ho
  isplitl [HaS]; · iexact HaS
  isplitl [HaR]; · iexact HaR
  isplitl [Hsb]; · iexact Hsb
  iexact Hrb

/-- The waits of a list of strips. -/
def waitsS (l : List (Fin 2 × Fin 4)) (k : PR F) : PR F := l.foldr (fun ρ k => waitS ρ.1 ρ.2 >>= fun _ => k) k

/-- The same for a list of them. -/
theorem wp_waitsS {Q : PUnit → sProp 𝕄} (c : Dev nD) (k : PR F) : ∀ l : List (Fin 2 × Fin 4),
    (iprop(Rec xs ws Kn In ∗ owesAt c 0 ∗ bigSepL l fun ρ => ringEnd c ρ.1 ρ.2)
      ⊢ iprop((owesAt c 0 ∗ (bigSepL l fun ρ => ringDone c ρ.1 ρ.2) -∗ WP c k Q) -∗ WP c (waitsS l k) Q))
  | [] => by
    iintro ⟨-, Ho, H⟩ Hk
    iapply Hk
    isplitl [Ho]; · iexact Ho
    iexact H
  | ρ :: l => by
    rw [bigSepL_cons', bigSepL_cons']
    iintro ⟨#HR, Ho, Hρ, Hl⟩ Hk
    iapply (wp_closeS xs ws Kn In c ρ.1 ρ.2 (waitsS l k)) $$ [Ho Hρ]
    · isplitr; · iexact HR
      isplitl [Ho]; · iexact Ho
      iexact Hρ
    iintro ⟨Ho, Hρ⟩
    iapply (wp_waitsS c k l) $$ [Ho Hl]
    · isplitr; · iexact HR
      isplitl [Ho]; · iexact Ho
      iexact Hl
    iintro ⟨Ho, Hl⟩
    iapply Hk
    isplitl [Ho]; · iexact Ho
    isplitl [Hρ]; · iexact Hρ
    iexact Hl

/-- The order of the closing waits on the send cells. -/
def closeOrder : List (Fin 2 × Fin 4) := [(0, 0), (1, 0), (0, 1), (1, 1), (0, 2), (1, 2), (0, 3), (1, 3)]

/-- The program's end is those waits followed by the last two copies' waits. -/
theorem closing_eq : closing (F := F) = waitsS closeOrder (waitO 0 3 >>= fun _ => waitO 1 3 >>= fun _ => pure ⟨⟩) := rfl

/-- What a device holds at the end. -/
def Final (c : Dev nD) : sProp 𝕄 :=
  iprop(xPts xs c ∗ wPts ws c ∗ owesAt c 0 ∗ (bigSep Finset.univ fun ρ : Fin 2 × Fin 4 => ringDone c ρ.1 ρ.2)
    ∗ (bigSep Finset.univ fun δ : Fin 2 => credAt c δ 24) ∗ bigSep Finset.univ fun δ : Fin 2 => outReady xs ws c δ 4)

/-- The program's end: every transfer and copy is waited for, and the device holds all it started with and the result. -/
theorem wp_closing {Q : PUnit → sProp 𝕄} (c : Dev nD) :
    iprop(Rec xs ws Kn In ∗ St xs ws c 64) ⊢ iprop((Final xs ws c -∗ |={Set.univ}=> Q ⟨⟩) -∗ WP c closing Q) := by
  have hr : rings (F := F) c 64 = bigSepL closeOrder fun ρ => ringEnd c ρ.1 ρ.2 := by
    unfold rings
    rw [← bigSep_univ_eq_bigSepL closeOrder (by decide) (by decide)]
    refine bigSep_congr fun ρ _ => ?_
    have h1 := ρ.1.isLt; have h2 := ρ.2.isLt
    rw [show stage 64 ρ = 8 from by unfold stage; omega, ringSt_end]
  have hc : crs (F := F) c 64 ⊢ bigSep Finset.univ fun δ : Fin 2 => credAt c δ 24 := by
    unfold crs
    have h : ∀ δ : Fin 2, crSt (F := F) c δ (ncr 64 δ) ⊢ credAt c δ 24 := fun δ => by
      have h1 := δ.isLt
      rw [show ncr 64 δ = 24 from by unfold ncr; omega]
      unfold crSt
      iintro ⟨H, -, -⟩; iexact H
    exact bigSep_mono fun δ _ => h δ
  have ho : outs xs ws c 64 = iprop(outSt xs ws c 0 4 ∗ outSt xs ws c 1 4) := by
    unfold outs; rw [bigSep_fin_two]; rfl
  unfold St Final
  rw [hr, ho, closing_eq, owed_end c (show 56 ≤ 64 by omega), show (bigSep Finset.univ fun δ : Fin 2 => outReady xs ws c δ 4) = iprop(outReady xs ws c 0 4 ∗ outReady xs ws c 1 4) from bigSep_fin_two _, bigSep_univ_eq_bigSepL closeOrder (by decide) (by decide)]
  iintro ⟨#HR, Hx, Hw, Ho, Hr, Hc, Ho0, Ho1⟩ Hk
  iapply (wp_waitsS xs ws Kn In c _ closeOrder) $$ [Ho Hr]
  · isplitr; · iexact HR
    isplitl [Ho]; · iexact Ho
    iexact Hr
  iintro ⟨Ho, Hr⟩
  iapply (wp_outStep xs ws Kn In c 0 3 (above_zero _) _) $$ [Ho Ho0]
  · isplitr; · iexact HR
    isplitl [Ho]; · unfold owesAt; iexact Ho
    iexact Ho0
  iintro ⟨Ho, Ho0⟩
  iapply (wp_outStep xs ws Kn In c 1 3 (above_zero _) _) $$ [Ho Ho1]
  · isplitr; · iexact HR
    isplitl [Ho]; · iexact Ho
    iexact Ho1
  iintro ⟨Ho, Ho1⟩
  unfold WP
  rw [Prog.pure_eq_ret, wp_ret]
  iapply Hk
  isplitl [Hx]; · iexact Hx
  isplitl [Hw]; · iexact Hw
  isplitl [Ho]; · unfold owesAt; iexact Ho
  isplitl [Hr]; · iexact Hr
  isplitl [Hc]; · iapply hc; iexact Hc
  isplitl [Ho0]; · iexact Ho0
  iexact Ho1

end Cert.KernelIdeal.Ring

end
-- ==== Proof.Memory.lean ====
/-
# The buffers and their slots

A buffer is the separating conjunction of its slots, and slots with any contents make up the buffer again.
-/
module

public import proofs.«01_k».proof.Proof.Ops

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg Window BodyObligation cellOf)

variable {F : FTy → Type} [FloatOps F]

local notation "𝕄" => MT nD τ sig ℕ (Elt F) ℕ UU ℕ

variable (xs : Dev nD → (cc0_stg0_0 : Ref sig .tc).ty.Contents (Elt F)) (ws : Dev nD → (cc0_stg1_0 : Ref sig .tc).ty.Contents (Elt F))

/-! ## Slots of a memref -/

/-- Summand by summand. -/
theorem mono_univ {I : Type} [Fintype I] {Φ Ψ : I → sProp 𝕄} (h : ∀ i, Φ i ⊢ Ψ i) : bigSep Finset.univ Φ ⊢ bigSep Finset.univ Ψ := bigSep_mono fun i _ => h i

section Slots

variable {sp : Space} {sh : Shape} {e : EltTy} {T : Type} [Fintype T] (r : T → Rect sh)

/-- One value out of one per slot, for slots that do not overlap. -/
def glue (Y : ∀ t, (r t).shape.Idx → Elt F e) (i : sh.Idx) : Elt F e := by
  classical
  exact if h : ∃ x : Σ t, (r t).shape.Idx, (r x.1).emb x.2 = i then Y h.choose.1 h.choose.2 else Classical.arbitrary _

/-- An array glued from pieces reads as the piece there. -/
theorem glue_emb (hd : ∀ t t', t ≠ t' → Disjoint (r t).set (r t').set) (Y : ∀ t, (r t).shape.Idx → Elt F e) (t : T) (j : (r t).shape.Idx) :
    glue r Y ((r t).emb j) = Y t j := by
  have h : ∃ x : Σ t, (r t).shape.Idx, (r x.1).emb x.2 = (r t).emb j := ⟨⟨t, j⟩, rfl⟩
  have key : ∀ x : Σ t, (r t).shape.Idx, (r x.1).emb x.2 = (r t).emb j → x = ⟨t, j⟩ := by
    rintro ⟨t', j'⟩ hx
    by_cases ht : t' = t
    · subst ht; exact congrArg (Sigma.mk t') ((r t').emb.injective hx)
    · exact absurd (hx ▸ (r t').idx_mem j' : (r t).emb j ∈ (r t').set) (Finset.disjoint_right.mp (hd t' t ht) ((r t).idx_mem j))
  unfold glue; rw [dif_pos h, key _ h.choose_spec]

variable [DecidableEq T] (m : Memref sig .tc sp sh e) (hr : ∀ t a, (r t).stride a = 1)
  (hd : ∀ t t', t ≠ t' → Disjoint (r t).set (r t').set) (hcov : (Finset.univ : Finset T).biUnion (fun t => (r t).set) = Finset.univ)

include hd hcov in
/-- The slots at given contents are the memref at the contents glued. -/
theorem owns_glue (c : Dev nD) (Y : ∀ t, (r t).shape.Idx → Elt F e) :
    (bigSep Finset.univ fun t => owns (c : Thread nD τ) (m.slice (r t) (hr t)) fullShare (Y t) : sProp 𝕄) ⊢ owns (c : Thread nD τ) m fullShare (glue r Y) := by
  refine .trans (Entails.of_eq (bigSep_congr fun t _ => ?_)) (owns_of_rects (c : Thread nD τ) m fullShare r hr hd hcov (glue r Y))
  exact congrArg _ (funext fun j => (glue_emb r hd Y t j).symm)

include hd hcov in
/-- The memref at any contents is its slots at any contents, -/
theorem slot_split (c : Dev nD) :
    (slot (m.view.loc (c : Thread nD τ)) m.view.set : sProp 𝕄)
      ⊢ bigSep Finset.univ fun t => slot ((m.slice (r t) (hr t)).view.loc (c : Thread nD τ)) (m.slice (r t) (hr t)).view.set := by
  have h : ∀ (t : T) (X : (r t).shape.Idx → Elt F e), (owns (c : Thread nD τ) (m.slice (r t) (hr t)) fullShare X : sProp 𝕄)
      ⊢ slot ((m.slice (r t) (hr t)).view.loc (c : Thread nD τ)) (m.slice (r t) (hr t)).view.set := fun t X => by
    unfold owns slot
    iintro ⟨%f, -, H⟩; iexists f; iexact H
  unfold slot
  iintro ⟨%g, H⟩
  ihave H := (Entails.of_eq (pointsTo_rects (c : Thread nD τ) m fullShare r hr hd hcov g)) $$ H
  iapply (mono_univ fun t => h t _)
  iexact H

include hd hcov in
/-- and back. -/
theorem slot_join (c : Dev nD) :
    (bigSep Finset.univ fun t => (slot ((m.slice (r t) (hr t)).view.loc (c : Thread nD τ)) (m.slice (r t) (hr t)).view.set : sProp 𝕄))
      ⊢ slot (m.view.loc (c : Thread nD τ)) m.view.set := by
  have h : ∀ t : T, (slot ((m.slice (r t) (hr t)).view.loc (c : Thread nD τ)) (m.slice (r t) (hr t)).view.set : sProp 𝕄)
      ⊢ iprop(∃ X : sh.Idx → Elt F e, owns (c : Thread nD τ) (m.slice (r t) (hr t)) fullShare fun j => X ((r t).emb j)) := fun t => by
    unfold slot
    iintro ⟨%f, H⟩
    iexists m.view.read (Elt F) f
    iapply (owns_intro (c : Thread nD τ) (m.slice (r t) (hr t)) fullShare f); iexact H
  iintro H
  ihave H := (mono_univ h) $$ H
  ihave H := (BI.bigSep_exists_pi Finset.univ (fun (t : T) (X : sh.Idx → Elt F e) => (owns (c : Thread nD τ) (m.slice (r t) (hr t)) fullShare fun j => X ((r t).emb j) : sProp 𝕄))) $$ H
  icases H with ⟨%X, H⟩
  ihave H := (owns_glue r m hr hd hcov c fun t j => X t ((r t).emb j)) $$ H
  unfold owns slot
  icases H with ⟨%f, -, H⟩
  iexists f; iexact H

end Slots

/-! ## The three families of slots -/

/-- Different slots do not meet. -/
theorem slotR_disj (t t' : Fin 4) (h : t ≠ t') : Disjoint (slotR t).set (slotR t').set := by
  refine Rect.unit_disjoint 0 ?_
  have : t.val ≠ t'.val := fun e => h (Fin.ext e)
  show t.val + 1 ≤ t'.val ∨ t'.val + 1 ≤ t.val
  omega
/-- The two staging slots do not meet. -/
theorem stgR_disj (t t' : Fin 2) (h : t ≠ t') : Disjoint (stgR t).set (stgR t').set := by
  refine Rect.unit_disjoint 0 ?_
  have : t.val ≠ t'.val := fun e => h (Fin.ext e)
  show t.val + 1 ≤ t'.val ∨ t'.val + 1 ≤ t.val
  omega
/-- Different strips do not meet. -/
theorem stripR_disj (t t' : Fin 2 × Fin 4) (h : t ≠ t') : Disjoint (stripR t.1 t.2).set (stripR t'.1 t'.2).set := by
  refine Rect.unit_disjoint 1 ?_
  have h1 := t.2.isLt; have h2 := t'.2.isLt
  have : ¬(t.1.val = t'.1.val ∧ t.2.val = t'.2.val) := fun e => h (Prod.ext (Fin.ext e.1) (Fin.ext e.2))
  show 1024 * (4 * t.1.val + t.2.val) + 1024 ≤ 1024 * (4 * t'.1.val + t'.2.val) ∨ 1024 * (4 * t'.1.val + t'.2.val) + 1024 ≤ 1024 * (4 * t.1.val + t.2.val)
  omega

/-- The four slots make up the buffer. -/
theorem slotR_cov : (Finset.univ : Finset (Fin 4)).biUnion (fun t => (slotR t).set) = Finset.univ := by
  refine Finset.eq_univ_of_forall fun i => Finset.mem_biUnion.mpr ⟨⟨(i 0).val, (i 0).isLt⟩, Finset.mem_univ _, Rect.mem_set_unit.mpr fun a => ?_⟩
  fin_cases a
  · exact ⟨le_rfl, Nat.lt_succ_self _⟩
  · exact ⟨Nat.zero_le _, by show (i 1).val < 0 + 512; have := (i 1).isLt; exact (Nat.zero_add 512).symm ▸ this⟩
  · exact ⟨Nat.zero_le _, by show (i 2).val < 0 + 1024; have := (i 2).isLt; exact (Nat.zero_add 1024).symm ▸ this⟩
/-- The two staging slots make up the staging buffer. -/
theorem stgR_cov : (Finset.univ : Finset (Fin 2)).biUnion (fun t => (stgR t).set) = Finset.univ := by
  refine Finset.eq_univ_of_forall fun i => Finset.mem_biUnion.mpr ⟨⟨(i 0).val, (i 0).isLt⟩, Finset.mem_univ _, Rect.mem_set_unit.mpr fun a => ?_⟩
  fin_cases a
  · exact ⟨le_rfl, Nat.lt_succ_self _⟩
  · exact ⟨Nat.zero_le _, by show (i 1).val < 0 + 512; have := (i 1).isLt; exact (Nat.zero_add 512).symm ▸ this⟩
  · exact ⟨Nat.zero_le _, by show (i 2).val < 0 + 1024; have := (i 2).isLt; exact (Nat.zero_add 1024).symm ▸ this⟩
/-- The eight strips make up the result. -/
theorem stripR_cov : (Finset.univ : Finset (Fin 2 × Fin 4)).biUnion (fun t => (stripR t.1 t.2).set) = Finset.univ := by
  refine Finset.eq_univ_of_forall fun i => ?_
  have h1 : (i 1).val < 8192 := (i 1).isLt
  refine Finset.mem_biUnion.mpr ⟨(⟨(i 1).val / 4096, by omega⟩, ⟨(i 1).val / 1024 % 4, by omega⟩), Finset.mem_univ _, Rect.mem_set_unit.mpr fun a => ?_⟩
  fin_cases a
  · exact ⟨Nat.zero_le _, by show (i 0).val < 0 + 512; have := (i 0).isLt; exact (Nat.zero_add 512).symm ▸ this⟩
  · show 1024 * (4 * ((i 1).val / 4096) + (i 1).val / 1024 % 4) ≤ (i 1).val ∧ (i 1).val < 1024 * (4 * ((i 1).val / 4096) + (i 1).val / 1024 % 4) + 1024
    omega

/-! ## The buffers -/

/-- The whole result of a device: its finished strips side by side. -/
def outW (c : Dev nD) : (main_v1 : Ref sig .tc).ty.Contents (Elt F) :=
  glue (F := F) (e := .f32) (fun t : Fin 2 × Fin 4 => stripR t.1 t.2) fun t => outV xs ws t.1 t.2 c

/-- The result reads, on a strip, as that strip's finished value. -/
theorem outW_strip (c : Dev nD) (δ : Fin 2) (r : Fin 4) (j : S512x1024.Idx) : outW xs ws c ((stripR δ r).emb j) = outV xs ws δ r c j :=
  glue_emb (F := F) (e := .f32) (fun t : Fin 2 × Fin 4 => stripR t.1 t.2) stripR_disj (fun t => outV xs ws t.1 t.2 c) (δ, r) j

/-- A whole buffer at any contents. -/
def anyBuf (c : Dev nD) (b : Ref sig .tc) : sProp 𝕄 := iprop(∃ f : Buf (Elt F) ((c : Thread nD τ).loc b), ((c : Thread nD τ).loc b) ↦{fullShare} f)

/-- A whole buffer holding something, as a slot. -/
theorem anyBuf_slot (c : Dev nD) (b : Ref sig .tc) :
    (anyBuf c b : sProp 𝕄) = slot ((Memref.whole b).view.loc (c : Thread nD τ)) (Memref.whole b).view.set := by
  unfold anyBuf slot; rw [Memref.view_whole, View.set_whole]

/-- A send buffer is its four slots. -/
theorem sb_split (c : Dev nD) (δ : Fin 2) : (anyBuf c (sbRef δ) : sProp 𝕄) = bigSep Finset.univ fun r : Fin 4 => sbAny c δ r := by
  rw [anyBuf_slot]
  have h : ∀ δ : Fin 2, (slot ((Memref.whole (sbRef δ)).view.loc (c : Thread nD τ)) (Memref.whole (sbRef δ)).view.set : sProp 𝕄)
    = slot ((sbM δ).view.loc (c : Thread nD τ)) (sbM δ).view.set := fun δ => match δ with | 0 => rfl | 1 => rfl
  rw [h]
  exact BI.equiv_iff.mp ⟨slot_split slotR (sbM δ) (fun _ _ => rfl) slotR_disj slotR_cov c, slot_join slotR (sbM δ) (fun _ _ => rfl) slotR_disj slotR_cov c⟩
/-- A receive buffer is its four slots. -/
theorem rb_split (c : Dev nD) (δ : Fin 2) : (anyBuf c (rbRef δ) : sProp 𝕄) = bigSep Finset.univ fun r : Fin 4 => rbAny c δ r := by
  rw [anyBuf_slot]
  have h : ∀ δ : Fin 2, (slot ((Memref.whole (rbRef δ)).view.loc (c : Thread nD τ)) (Memref.whole (rbRef δ)).view.set : sProp 𝕄)
    = slot ((rbM δ).view.loc (c : Thread nD τ)) (rbM δ).view.set := fun δ => match δ with | 0 => rfl | 1 => rfl
  rw [h]
  exact BI.equiv_iff.mp ⟨slot_split slotR (rbM δ) (fun _ _ => rfl) slotR_disj slotR_cov c, slot_join slotR (rbM δ) (fun _ _ => rfl) slotR_disj slotR_cov c⟩
/-- The staging buffer is its two slots. -/
theorem g_split (c : Dev nD) : (anyBuf c cc0_scratch4 : sProp 𝕄) = bigSep Finset.univ fun δ : Fin 2 => gAny c δ := by
  rw [anyBuf_slot]
  exact BI.equiv_iff.mp ⟨slot_split stgR gM (fun _ _ => rfl) stgR_disj stgR_cov c, slot_join stgR gM (fun _ _ => rfl) stgR_disj stgR_cov c⟩
/-- The result buffer at any contents is its strips at any contents; -/
theorem o_split (c : Dev nD) : (anyBuf c main_v1 : sProp 𝕄) = bigSep Finset.univ fun t : Fin 2 × Fin 4 => oAny c t.1 t.2 := by
  rw [anyBuf_slot]
  exact BI.equiv_iff.mp ⟨slot_split (fun t : Fin 2 × Fin 4 => stripR t.1 t.2) oM (fun _ _ => rfl) stripR_disj stripR_cov c,
    slot_join (fun t : Fin 2 × Fin 4 => stripR t.1 t.2) oM (fun _ _ => rfl) stripR_disj stripR_cov c⟩
/-- the finished strips are the finished result. -/
theorem o_join (c : Dev nD) : (bigSep Finset.univ fun t : Fin 2 × Fin 4 => oHas (F := F) c t.1 t.2 (outV xs ws t.1 t.2 c))
    ⊢ (((c : Thread nD τ).loc main_v1) ↦{fullShare} outW xs ws c : sProp 𝕄) :=
  (owns_glue (fun t : Fin 2 × Fin 4 => stripR t.1 t.2) oM (fun _ _ => rfl) stripR_disj stripR_cov c fun t => outV xs ws t.1 t.2 c).trans
    (Entails.of_eq (owns_whole (c : Thread nD τ) main_v1 fullShare (outW xs ws c)))

end Cert.KernelIdeal.Ring

end
-- ==== Proof.Body.lean ====
/-
# The body of the kernel

What a device starts the body with and what it leaves, and the body taken from the one to the other: the receive slots
given back for the first time, the handshake with the neighbours, the sixty-four phases, the closing waits, the cells closed.
-/
module

public import proofs.«01_k».proof.Proof.Sched
public import proofs.«01_k».proof.Proof.Memory

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg Window BodyObligation cellOf)

variable {F : FTy → Type} [FloatOps F]

local notation "𝕄" => MT nD τ sig ℕ (Elt F) ℕ UU ℕ

variable (xs : Dev nD → (cc0_stg0_0 : Ref sig .tc).ty.Contents (Elt F)) (ws : Dev nD → (cc0_stg1_0 : Ref sig .tc).ty.Contents (Elt F))

variable (Kn : Dev nD × CK → ℕ) (In : SlotKey → ℕ)

/-! ## Sums over the cells and over the strips -/

/-- A family over all cells, taken apart by kind. -/
theorem CK_split (Φ : CK → sProp 𝕄) : bigSep Finset.univ Φ
    = iprop(Φ kB ∗ (bigSep Finset.univ fun ρ : Fin 2 × Fin 4 => Φ (kS ρ.1 ρ.2)) ∗ (bigSep Finset.univ fun ρ : Fin 2 × Fin 4 => Φ (kR ρ.1 ρ.2))
      ∗ (bigSep Finset.univ fun δ : Fin 2 => Φ (kC δ)) ∗ bigSep Finset.univ fun δ : Fin 2 => Φ (kO δ)) := by
  rw [bigSep_univ_sum, bigSep_univ_sum, bigSep_univ_sum, bigSep_univ_sum, show (Finset.univ : Finset Unit) = {()} from rfl, bigSep_singleton]; rfl
/-- A family over a device's own cells, taken apart by kind. -/
theorem OK_split (Φ : OK → sProp 𝕄) : bigSep Finset.univ Φ
    = iprop((bigSep Finset.univ fun ρ : Fin 2 × Fin 4 => Φ (.inl ρ)) ∗ (bigSep Finset.univ fun ρ : Fin 2 × Fin 4 => Φ (.inr (.inl ρ)))
      ∗ (bigSep Finset.univ fun δ : Fin 2 => Φ (.inr (.inr (.inl δ)))) ∗ bigSep Finset.univ fun δ : Fin 2 => Φ (.inr (.inr (.inr δ)))) := by
  rw [bigSep_univ_sum, bigSep_univ_sum, bigSep_univ_sum]; rfl

/-- A family over the four copies, as an interval. -/
theorem four_Ico (Φ : Fin 4 → sProp 𝕄) : bigSep Finset.univ Φ = bigSep (Finset.Ico 0 4) fun i => Φ (Fin.ofNat 4 i) := by
  rw [bigSep_univ_eq_bigSepL [0, 1, 2, 3] (by decide) (by decide), bigSep_eq_bigSepL_of_eq [0, 1, 2, 3] (by decide) (by decide)]; rfl
/-- The same as a range. -/
theorem four_range (Φ : Fin 4 → sProp 𝕄) : bigSep Finset.univ Φ = bigSep (Finset.range 4) fun i => Φ (Fin.ofNat 4 i) := by
  rw [four_Ico, Finset.range_eq_Ico]

/-! ## Before the first phase -/

/-- The ghost state a device starts with: its positions, the tokens of what it will pay, its permissions on its receive
    slots and on its neighbours'. -/
def linear (c : Dev nD) : sProp 𝕄 :=
  iprop((bigSep Finset.univ fun k : CK => atPos ER (cell c k) 0 ∅ 0)
    ∗ (dutyTok ER (cell (up 0 c) kB) 0 0 ∗ dutyTok ER (cell (dn 0 c) kB) 0 1)
    ∗ (bigSep Finset.univ fun ρ : Fin 2 × Fin 4 => readerAt ES ((c, ρ) : SlotKey) 0)
    ∗ (bigSep Finset.univ fun ρ : Fin 2 × Fin 4 => bigSep (Finset.Ico 0 7) (tokS c ρ.1 ρ.2))
    ∗ (bigSep Finset.univ fun δ : Fin 2 => bigSep (Finset.Ico 0 24) fun i => dutyTok ER (cell (up δ c) (kC δ)) 0 i)
    ∗ bigSep Finset.univ fun δ : Fin 2 => bigSep (Finset.Ico 0 4) fun i => dutyTok ER (cell c (kO δ)) i 0)
/-- The credits dealt to it at launch. -/
def creds (c : Dev nD) : sProp 𝕄 :=
  iprop(cred (tallyAt (cell c kB) 1 2) ∗ (bigSep Finset.univ fun ρ : Fin 2 × Fin 4 => bigSep (Finset.Ico 0 7) (crdR c ρ.1 ρ.2))
    ∗ bigSep Finset.univ fun δ : Fin 2 => bigSep (Finset.Ico 0 24) fun i => cred (tallyAt (cell c (kC δ)) (2 * (8 * (i / 4 + 1) + 2 * (i % 4) + δ.val) + 2) 1))
/-- The memory it works in. -/
def mems (c : Dev nD) : sProp 𝕄 :=
  iprop((bigSep Finset.univ fun ρ : Fin 2 × Fin 4 => sbAny c ρ.1 ρ.2) ∗ (bigSep Finset.univ fun ρ : Fin 2 × Fin 4 => rbAny c ρ.1 ρ.2)
    ∗ (bigSep Finset.univ fun δ : Fin 2 => gAny c δ))

/-- The scratch buffers: the send buffers, the receive buffers and the staging buffer. -/
theorem mems_eq (c : Dev nD) : (mems c : sProp 𝕄)
    = iprop((anyBuf c cc0_scratch0 ∗ anyBuf c cc0_scratch2) ∗ (anyBuf c cc0_scratch1 ∗ anyBuf c cc0_scratch3) ∗ anyBuf c cc0_scratch4) := by
  unfold mems
  rw [bigSep_univ_prod, bigSep_univ_prod, ← g_split,
    show (bigSep Finset.univ fun δ : Fin 2 => bigSep Finset.univ fun r : Fin 4 => sbAny (F := F) c δ r) = bigSep Finset.univ fun δ : Fin 2 => anyBuf c (sbRef δ) from
      bigSep_congr fun δ _ => (sb_split c δ).symm,
    show (bigSep Finset.univ fun δ : Fin 2 => bigSep Finset.univ fun r : Fin 4 => rbAny (F := F) c δ r) = bigSep Finset.univ fun δ : Fin 2 => anyBuf c (rbRef δ) from
      bigSep_congr fun δ _ => (rb_split c δ).symm,
    bigSep_fin_two, bigSep_fin_two]
  rfl

/-- Something known beside each summand. -/
theorem with_known {I : Type} [Fintype I] [DecidableEq I] {R : sProp 𝕄} [BI.Persistent R] {Φ Ψ : I → sProp 𝕄} (h : ∀ i, iprop(R ∗ Φ i) ⊢ Ψ i) :
    iprop(R ∗ bigSep Finset.univ Φ) ⊢ bigSep Finset.univ Ψ :=
  (sep_mono_left (BI.bigSep_of_persistent Finset.univ R)).trans (by rw [← bigSep_sep']; exact bigSep_mono fun i _ => h i)

/-- The first time a device gives back its receive slots. -/
theorem release_all (c : Dev nD) :
    iprop(Rec xs ws Kn In ∗ (bigSep Finset.univ fun ρ : Fin 2 × Fin 4 => readerAt ES ((c, ρ) : SlotKey) 0) ∗ bigSep Finset.univ fun ρ : Fin 2 × Fin 4 => rbAny c ρ.1 ρ.2)
      ⊢ |={Set.univ}=> iprop((bigSep Finset.univ fun ρ : Fin 2 × Fin 4 => readerAt ES ((c, ρ) : SlotKey) 1)
          ∗ bigSep Finset.univ fun ρ : Fin 2 × Fin 4 => factF (F := F) c ρ.1 ρ.2 0) := by
  have h : ∀ ρ : Fin 2 × Fin 4, iprop(Rec xs ws Kn In ∗ (readerAt ES ((c, ρ) : SlotKey) 0 ∗ rbAny c ρ.1 ρ.2))
      ⊢ |={Set.univ}=> iprop(readerAt ES ((c, ρ) : SlotKey) 1 ∗ factF (F := F) c ρ.1 ρ.2 0) := fun ρ => by
    iintro ⟨#HR, HrA, Hrb⟩
    imod (slot_release ES (Set.mem_univ (In (c, (ρ.1, ρ.2)))) (rbAny_excl (F := F) c ρ.1 ρ.2) 0) $$ [HrA Hrb] with ⟨HrA, Hrel⟩
    · isplitr; · iapply (Rec_slot xs ws Kn In c ρ.1 ρ.2); iexact HR
      isplitl [HrA]; · iexact HrA
      iexact Hrb
    imodintro
    isplitl [HrA]; · iexact HrA
    unfold factF
    isplitl [Hrel]; · iexact Hrel
    iapply (Rec_reached xs ws Kn In c (kR ρ.1 ρ.2)); iexact HR
  rw [← bigSep_sep', ← bigSep_sep']
  exact (with_known h).trans (bigSep_fupd _ _)

/-- The two directions are opposite: down one way undoes down the other. -/
theorem dn_one : ∀ c : Dev nD, dn 1 (dn 0 c) = c := by decide
/-- Down undoes up in the first direction. -/
theorem dn_zero : ∀ c : Dev nD, dn 0 (up 0 c) = c := by decide

/-- What the handshake tells a device. -/
theorem rest_bar (c : Dev nD) :
    bigSep ((Rd xs ws).duties (cell c kB) 0 \ ∅) (fun d => (Rd xs ws).payload (cell c kB) 0 d)
      = bigSep Finset.univ fun ρ : Fin 2 × Fin 4 => factF (F := F) (dn ρ.1 c) ρ.1 ρ.2 0 := by
  rw [Finset.sdiff_empty, Rd_duties, show dutyK kB 0 = {0, 1} from by decide, bigSep_eq_bigSepL_of_eq [0, 1] (by decide) (by decide),
    bigSep_univ_prod, bigSep_fin_two]
  show iprop((Rd xs ws).payload (cell c kB) 0 0 ∗ (Rd xs ws).payload (cell c kB) 0 1) = _
  rw [Rd_payload, Rd_payload]
  rfl

/-- The handshake. -/
theorem wp_open {Q : PUnit → sProp 𝕄} (c : Dev nD) (k : PR F) :
    iprop(Rec xs ws Kn In ∗ owesAt c (O₀ c) ∗ atPos ER (cell c kB) 0 ∅ 0 ∗ cred (tallyAt (cell c kB) 1 2)
        ∗ (dutyTok ER (cell (up 0 c) kB) 0 0 ∗ dutyTok ER (cell (dn 0 c) kB) 0 1) ∗ bigSep Finset.univ fun ρ : Fin 2 × Fin 4 => factF (F := F) c ρ.1 ρ.2 0)
      ⊢ iprop((owesAt c (owed c 0) ∗ atPos ER (cell c kB) 1 ∅ 0 ∗ (bigSep Finset.univ fun ρ : Fin 2 × Fin 4 => factF (F := F) (dn ρ.1 c) ρ.1 ρ.2 0) -∗ WP c k Q)
          -∗ WP c (semSignalWord (devAt c 0) barS 1#32 >>= fun _ => semSignalWord (devAt c 1) barS 1#32 >>= fun _ => semWaitWord barS 2#32 >>= fun _ => k) Q) := by
  rw [(devAt_bar c).1, (devAt_bar c).2]
  have hp0 : (Rd xs ws).payload ((up 0 c : Thread nD τ), .reg barS) 0 0 = bigSep Finset.univ fun i : Fin 4 => factF (F := F) c 0 i 0 := by
    refine (Rd_payload xs ws (up 0 c) kB 0 0).trans ?_
    show bigSep Finset.univ (fun i : Fin 4 => factF (F := F) (dn 0 (up 0 c)) 0 i 0) = _
    rw [dn_zero]
  have hp1 : (Rd xs ws).payload ((dn 0 c : Thread nD τ), .reg barS) 0 1 = bigSep Finset.univ fun i : Fin 4 => factF (F := F) c 1 i 0 := by
    refine (Rd_payload xs ws (dn 0 c) kB 0 1).trans ?_
    show bigSep Finset.univ (fun i : Fin 4 => factF (F := F) (dn 1 (dn 0 c)) 1 i 0) = _
    rw [dn_one]
  have hf : (bigSep Finset.univ fun ρ : Fin 2 × Fin 4 => factF (F := F) c ρ.1 ρ.2 0)
      = iprop((bigSep Finset.univ fun i : Fin 4 => factF (F := F) c 0 i 0) ∗ bigSep Finset.univ fun i : Fin 4 => factF (F := F) c 1 i 0) := by
    rw [bigSep_univ_prod, bigSep_fin_two]; rfl
  have hrest : bigSep ((Rd xs ws).duties ((c : Thread nD τ), .reg barS) 0 \ ∅) (fun d => (Rd xs ws).payload ((c : Thread nD τ), .reg barS) 0 d)
      ⊢ bigSep Finset.univ fun ρ : Fin 2 × Fin 4 => factF (F := F) (dn ρ.1 c) ρ.1 ρ.2 0 := Entails.of_eq (rest_bar xs ws c)
  rw [hf]
  unfold owesAt
  iintro ⟨#HR, ⟨%W, Ho⟩, Hat, Hc, ⟨Ht0, Ht1⟩, #HF0, #HF1⟩ Hk
  iapply (Rounds.wp_signal 𝒱₀ ER (Rd xs ws) (c : Thread nD τ) none (dst := (up 0 c : Thread nD τ)) (sem := barS) (κ := Kn (up 0 c, kB)) (r := 0) (d := 0)
    (by show 0 ∈ (Rd xs ws).duties (cell (up 0 c) kB) 0; rw [Rd_duties]; decide)
    (Rd_amount xs ws (up 0 c) kB 0 0) 1 (O₁ c) rfl (W := W)) $$ [Ho Ht0]
  · isplitr; · iapply (Rec_inv xs ws Kn In (up 0 c) kB); iexact HR
    isplitl [Ho]; · iexact Ho
    isplitl [Ht0]; · iexact Ht0
    isplitr
    · rw [hp0]; iexact HF0
    iapply (Rec_reached xs ws Kn In (up 0 c) kB); iexact HR
  iintro Ho
  iapply (Rounds.wp_signal 𝒱₀ ER (Rd xs ws) (c : Thread nD τ) none (dst := (dn 0 c : Thread nD τ)) (sem := barS) (κ := Kn (dn 0 c, kB)) (r := 0) (d := 1)
    (by show 1 ∈ (Rd xs ws).duties (cell (dn 0 c) kB) 0; rw [Rd_duties]; decide)
    (Rd_amount xs ws (dn 0 c) kB 0 1) 1 (owed c 0) rfl (W := W)) $$ [Ho Ht1]
  · isplitr; · iapply (Rec_inv xs ws Kn In (dn 0 c) kB); iexact HR
    isplitl [Ho]; · iexact Ho
    isplitl [Ht1]; · iexact Ht1
    isplitr
    · rw [hp1]; iexact HF1
    iapply (Rec_reached xs ws Kn In (dn 0 c) kB); iexact HR
  iintro Ho
  iapply (Rounds.wp_wait_rest_token 𝒱₀ ER (Rd xs ws) (c : Thread nD τ) none (κ := Kn (c, kB)) (k := fun _ => k)
    (wpE_semWait_eq 𝒱₀ (c : Thread nD τ) none Set.univ) (Set.mem_univ _) 1 (O := owed c 0) (W := W) (R := 0) (m := 0) (T := ∅)
    (by rw [Nat.zero_add]; exact (Rd_expect xs ws c kB 0).symm)) $$ [Hc Ho Hat]
  · isplitr; · iapply (Rec_inv xs ws Kn In c kB); iexact HR
    isplitl [Hc]; · iexact Hc
    isplitl [Ho]; · iexact Ho
    isplitr; · iapply (mayWait c (csem kB) (i := 1) (by decide) (above_owed c (by decide))); iapply (Rec_lev xs ws Kn In); iexact HR
    iexact Hat
  iintro ⟨Ho, Hat, -, Hpay⟩
  ihave Hp := hrest $$ Hpay
  iapply Hk
  isplitl [Ho]; · iexists _; iexact Ho
  isplitl [Hat]; · iexact Hat
  iexact Hp

/-! ## The state before phase 0 -/

/-- The states of the rings before the first phase, taken apart. -/
theorem rings_zero (c : Dev nD) : (rings c 0 : sProp 𝕄)
    = iprop((bigSep Finset.univ fun ρ : Fin 2 × Fin 4 => atPos ER (cell c (kS ρ.1 ρ.2)) 0 ∅ 0)
      ∗ (bigSep Finset.univ fun ρ : Fin 2 × Fin 4 => atPos ER (cell c (kR ρ.1 ρ.2)) 0 ∅ 0)
      ∗ (bigSep Finset.univ fun ρ : Fin 2 × Fin 4 => readerAt ES ((c, ρ) : SlotKey) 1)
      ∗ (bigSep Finset.univ fun ρ : Fin 2 × Fin 4 => sbAny c ρ.1 ρ.2)
      ∗ (bigSep Finset.univ fun ρ : Fin 2 × Fin 4 => factF (F := F) (dn ρ.1 c) ρ.1 ρ.2 0)
      ∗ (bigSep Finset.univ fun ρ : Fin 2 × Fin 4 => bigSep (Finset.Ico 0 7) (tokS c ρ.1 ρ.2))
      ∗ bigSep Finset.univ fun ρ : Fin 2 × Fin 4 => bigSep (Finset.Ico 0 7) (crdR c ρ.1 ρ.2)) := by
  have h : (rings c 0 : sProp 𝕄) = bigSep Finset.univ fun ρ : Fin 2 × Fin 4 => ring0 c ρ.1 ρ.2 := by
    unfold rings
    refine bigSep_congr fun ρ _ => ?_
    have h1 := ρ.1.isLt; have h2 := ρ.2.isLt
    rw [show stage 0 ρ = 0 from by unfold stage; omega]; rfl
  rw [h]; unfold ring0
  rw [bigSep_sep', bigSep_sep', bigSep_sep', bigSep_sep', bigSep_sep', bigSep_sep']

/-- What the states of the credit cells before the first phase are made from. -/
theorem crs_zero (c : Dev nD) :
    iprop((bigSep Finset.univ fun δ : Fin 2 => atPos ER (cell c (kC δ)) 0 ∅ 0)
      ∗ (bigSep Finset.univ fun δ : Fin 2 => bigSep (Finset.Ico 0 24) fun i => dutyTok ER (cell (up δ c) (kC δ)) 0 i)
      ∗ bigSep Finset.univ fun δ : Fin 2 => bigSep (Finset.Ico 0 24) fun i => cred (tallyAt (cell c (kC δ)) (2 * (8 * (i / 4 + 1) + 2 * (i % 4) + δ.val) + 2) 1))
      ⊢ crs (F := F) c 0 := by
  have h : ∀ δ : Fin 2, iprop(atPos ER (cell c (kC δ)) 0 ∅ 0 ∗ (bigSep (Finset.Ico 0 24) (fun i => dutyTok ER (cell (up δ c) (kC δ)) 0 i)
      ∗ bigSep (Finset.Ico 0 24) fun i => cred (tallyAt (cell c (kC δ)) (2 * (8 * (i / 4 + 1) + 2 * (i % 4) + δ.val) + 2) 1))) ⊢ crSt (F := F) c δ (ncr 0 δ) := fun δ => by
    have h1 := δ.isLt
    rw [show ncr 0 δ = 0 from by unfold ncr; omega]
    unfold crSt credAt crI
    rw [bigSep_sep', Finset.range_zero, bigSep_empty]
    iintro ⟨Ha, Ht, Hc⟩
    isplitl [Ha]
    · iexists ∅
      isplitr; · ipureintro; exact ⟨Finset.empty_subset _, Nat.zero_le _⟩
      isplitl [Ha]; · iexact Ha
      rw [bigSep_empty]; iempintro
    isplitl [Ht Hc]
    · isplitl [Ht]; · iexact Ht
      iexact Hc
    iempintro
  rw [← bigSep_sep', ← bigSep_sep']
  exact mono_univ h

/-- What the states of the copy cells before the first phase are made from. -/
theorem outs_zero (c : Dev nD) :
    iprop(Rec xs ws Kn In ∗ (bigSep Finset.univ fun δ : Fin 2 => atPos ER (cell c (kO δ)) 0 ∅ 0) ∗ (bigSep Finset.univ fun δ : Fin 2 => gAny c δ)
      ∗ (bigSep Finset.univ fun t : Fin 2 × Fin 4 => oAny c t.1 t.2)
      ∗ bigSep Finset.univ fun δ : Fin 2 => bigSep (Finset.Ico 0 4) fun i => dutyTok ER (cell c (kO δ)) i 0)
      ⊢ outs xs ws c 0 := by
  have h : ∀ δ : Fin 2, iprop(Rec xs ws Kn In ∗ (atPos ER (cell c (kO δ)) 0 ∅ 0 ∗ (gAny c δ ∗ ((bigSep Finset.univ fun r : Fin 4 => oAny c δ r)
      ∗ bigSep (Finset.Ico 0 4) fun i => dutyTok ER (cell c (kO δ)) i 0)))) ⊢ outSt xs ws c δ (nout 0 δ) := fun δ => by
    have h1 := δ.isLt
    rw [show nout 0 δ = 0 from by unfold nout; omega, show outSt xs ws c δ 0 = outReady xs ws c δ 0 from rfl, four_Ico]
    unfold outReady oTodo
    rw [bigSep_sep', Finset.range_zero, bigSep_empty]
    iintro ⟨#HR, Ha, Hg, Ho, Ht⟩
    isplitl [Ha]; · iexact Ha
    isplitr; · iapply (Rec_reached xs ws Kn In c (kO δ)); iexact HR
    isplitl [Hg]; · iexact Hg
    isplitl [Ho Ht]
    · isplitl [Ho]; · iexact Ho
      iexact Ht
    iempintro
  rw [bigSep_univ_prod, ← bigSep_sep', ← bigSep_sep', ← bigSep_sep']
  exact with_known h

/-! ## After the closing waits -/

/-- The kernel's own semaphores. -/
def osem : OK → SemLoc sig := fun k => csem (.inr k)

/-- The cells closed, the slots back in their buffers, the result whole. -/
theorem finish (c : Dev nD) :
    iprop(Rec xs ws Kn In ∗ atPos ER (cell c kB) 1 ∅ 0 ∗ Final xs ws c)
      ⊢ |={Set.univ}=> iprop(xPts xs c ∗ wPts ws c ∗ owesAt c 0 ∗ mems c ∗ (((c : Thread nD τ).loc main_v1) ↦{fullShare} outW xs ws c)
          ∗ (bigSep Finset.univ fun k : CK => semVal (cell c k) 0)) := by
  have hout : ∀ δ : Fin 2, outReady xs ws c δ 4 ⊢ iprop(atPos ER (cell c (kO δ)) 4 ∅ 0 ∗ gAny c δ ∗ bigSep Finset.univ fun r : Fin 4 => oHas (F := F) c δ r (outV xs ws δ r c)) := fun δ => by
    rw [four_range]
    unfold outReady oDone
    iintro ⟨Ha, -, Hg, -, Hd⟩
    isplitl [Ha]; · iexact Ha
    isplitl [Hg]; · iexact Hg
    iexact Hd
  have hcr : ∀ δ : Fin 2, iprop(Rec xs ws Kn In ∗ credAt c δ 24) ⊢ |={Set.univ}=> atPos ER (cell c (kC δ)) 1 ∅ 0 := fun δ => by
    unfold credAt
    iintro ⟨#HR, %T, %hT, Ha, -⟩
    have hT' : T = Finset.range 24 := Finset.eq_of_subset_of_card_le hT.1 (by rw [Finset.card_range]; exact hT.2)
    imod (Rounds.fupd_skip ER (Rd xs ws) (κ := Kn (c, kC δ)) (g := cell c (kC δ)) (R := 0) (m := 24) (T := T) (by rw [Rd_duties, hT']; exact Finset.Subset.refl _)
      (Rd_expect xs ws c (kC δ) 0).symm (Set.mem_univ _)) $$ [Ha] with ⟨Ha, -⟩
    · isplitr; · iapply (Rec_inv xs ws Kn In c (kC δ)); iexact HR
      iexact Ha
    imodintro; iexact Ha
  have hall : iprop(Rec xs ws Kn In ∗ bigSep Finset.univ fun k : CK => atPos ER (cell c k) (lastK k) ∅ 0)
      ⊢ |={Set.univ}=> bigSep Finset.univ fun k : CK => semVal (cell c k) 0 :=
    (with_known (Ψ := fun k : CK => iprop(cellInv ER (Rd xs ws) (Kn (c, k)) (cell c k) ∗ atPos ER (cell c k) (lastK k) ∅ 0)) fun k =>
      sep_mono_left (Rec_inv xs ws Kn In c k)).trans
      (Rounds.cells_close ER (Rd xs ws) Finset.univ (fun k => cell c k) (fun k => Kn (c, k)) (fun k _ => Set.mem_univ _) (fun k _ h => h) lastK (fun k _ => Rd_last xs ws c k))
  have hrd : (bigSep Finset.univ fun ρ : Fin 2 × Fin 4 => ringDone (F := F) c ρ.1 ρ.2)
      = iprop((bigSep Finset.univ fun ρ : Fin 2 × Fin 4 => atPos ER (cell c (kS ρ.1 ρ.2)) 7 ∅ 0)
        ∗ (bigSep Finset.univ fun ρ : Fin 2 × Fin 4 => atPos ER (cell c (kR ρ.1 ρ.2)) 7 ∅ 0)
        ∗ (bigSep Finset.univ fun ρ : Fin 2 × Fin 4 => sbAny c ρ.1 ρ.2) ∗ bigSep Finset.univ fun ρ : Fin 2 × Fin 4 => rbAny c ρ.1 ρ.2) := by
    unfold ringDone; rw [bigSep_sep', bigSep_sep', bigSep_sep']
  have hos : (bigSep Finset.univ fun δ : Fin 2 => outReady xs ws c δ 4)
      ⊢ iprop((bigSep Finset.univ fun δ : Fin 2 => atPos ER (cell c (kO δ)) 4 ∅ 0) ∗ (bigSep Finset.univ fun δ : Fin 2 => gAny c δ)
        ∗ bigSep Finset.univ fun t : Fin 2 × Fin 4 => oHas (F := F) c t.1 t.2 (outV xs ws t.1 t.2 c)) := by
    rw [bigSep_univ_prod, ← bigSep_sep', ← bigSep_sep']
    exact mono_univ hout
  unfold Final
  rw [hrd]
  iintro ⟨#HR, HaB, Hx, Hw, Ho, ⟨HaS, HaR, Hsb, Hrb⟩, Hc, Hout⟩
  ihave Hout := hos $$ Hout
  icases Hout with ⟨HaO, Hg, Hd⟩
  imod ((with_known hcr).trans (bigSep_fupd Finset.univ fun δ : Fin 2 => (atPos ER (cell c (kC δ)) 1 ∅ 0 : sProp 𝕄))) $$ [Hc] with HaC
  · isplitr; · iexact HR
    iexact Hc
  imod hall $$ [HaB HaS HaR HaC HaO] with Hz
  · isplitr; · iexact HR
    rw [CK_split]
    isplitl [HaB]; · iexact HaB
    isplitl [HaS]; · iexact HaS
    isplitl [HaR]; · iexact HaR
    isplitl [HaC]; · iexact HaC
    iexact HaO
  imodintro
  isplitl [Hx]; · iexact Hx
  isplitl [Hw]; · iexact Hw
  isplitl [Ho]; · iexact Ho
  isplitl [Hsb Hrb Hg]
  · unfold mems
    isplitl [Hsb]; · iexact Hsb
    isplitl [Hrb]; · iexact Hrb
    iexact Hg
  isplitl [Hd]; · iapply (o_join xs ws c); iexact Hd
  iexact Hz

/-! ## The whole body -/

/-- A device asking its own number. -/
theorem wp_self {Q : PUnit → sProp 𝕄} (c : Dev nD) (k : Dev nD → PR F) : WP c (k c) Q ⊢ WP c (Prog.lift .deviceId >>= k) Q :=
  Entails.of_eq (wp_deviceId 𝒱₀ (c : Thread nD τ) none Set.univ (k := k)).symm

/-- The whole body on one device: from its share of the protocol, its staged operands, its scratch and the result array, it ends with nothing owed, the operands and scratch back, every cell of it at zero, and the finished result. -/
theorem wp_body {Q : PUnit → sProp 𝕄} (c : Dev nD) :
    iprop(Rec xs ws Kn In ∗ linear c ∗ creds c ∗ mems c ∗ anyBuf c main_v1 ∗ xPts xs c ∗ wPts ws c ∗ owesAt c (O₀ c))
      ⊢ iprop((xPts xs c ∗ wPts ws c ∗ owesAt c 0 ∗ mems c ∗ (((c : Thread nD τ).loc main_v1) ↦{fullShare} outW xs ws c)
          ∗ (bigSep Finset.univ fun k : CK => semVal (cell c k) 0) -∗ |={Set.univ}=> Q ⟨⟩) -∗ WP c ringBody Q) := by
  unfold linear creds
  rw [CK_split, o_split]
  rw [show (mems c : sProp 𝕄) = iprop((bigSep Finset.univ fun ρ : Fin 2 × Fin 4 => sbAny c ρ.1 ρ.2) ∗ (bigSep Finset.univ fun ρ : Fin 2 × Fin 4 => rbAny c ρ.1 ρ.2)
    ∗ (bigSep Finset.univ fun δ : Fin 2 => gAny c δ)) from rfl]
  iintro ⟨#HR, ⟨⟨HaB, HaS, HaR, HaC, HaO⟩, HtB, HrA, HtS, HtC, HtO⟩, ⟨HcB, HcR, HcC⟩, ⟨Hsb, Hrb, Hg⟩, Hov, Hx, Hw, Ho⟩ Hk
  imod (release_all xs ws Kn In c) $$ [HrA Hrb] with ⟨HrA, HF⟩
  · isplitr; · iexact HR
    isplitl [HrA]; · iexact HrA
    iexact Hrb
  iapply (wp_self (F := F) c fun d => semSignalWord (devAt d 0) barS 1#32 >>= fun _ => semSignalWord (devAt d 1) barS 1#32 >>= fun _ => semWaitWord barS 2#32 >>= fun _ => phases d 64)
  iapply (wp_open xs ws Kn In c (phases c 64)) $$ [Ho HaB HcB HtB HF]
  · isplitr; · iexact HR
    isplitl [Ho]; · iexact Ho
    isplitl [HaB]; · iexact HaB
    isplitl [HcB]; · iexact HcB
    isplitl [HtB]; · iexact HtB
    iexact HF
  iintro ⟨Ho, HaB, HF⟩
  iapply (wp_phases xs ws Kn In c 64 le_rfl) $$ [Hx Hw Ho HaS HaR HrA Hsb HF HtS HcR HaC HtC HcC HaO Hg Hov HtO]
  · isplitr; · iexact HR
    unfold St
    rw [Nat.sub_self, rings_zero]
    isplitl [Hx]; · iexact Hx
    isplitl [Hw]; · iexact Hw
    isplitl [Ho]; · iexact Ho
    isplitl [HaS HaR HrA Hsb HF HtS HcR]
    · isplitl [HaS]; · iexact HaS
      isplitl [HaR]; · iexact HaR
      isplitl [HrA]; · iexact HrA
      isplitl [Hsb]; · iexact Hsb
      isplitl [HF]; · iexact HF
      isplitl [HtS]; · iexact HtS
      iexact HcR
    isplitl [HaC HtC HcC]
    · iapply (crs_zero (F := F) c)
      isplitl [HaC]; · iexact HaC
      isplitl [HtC]; · iexact HtC
      iexact HcC
    iapply (outs_zero xs ws Kn In c)
    isplitr; · iexact HR
    isplitl [HaO]; · iexact HaO
    isplitl [Hg]; · iexact Hg
    isplitl [Hov]; · iexact Hov
    iexact HtO
  iintro HS
  iapply (wp_closing xs ws Kn In c) $$ [HS]
  · isplitr; · iexact HR
    iexact HS
  iintro HF
  imod (finish xs ws Kn In c) $$ [HaB HF] with H
  · isplitr; · iexact HR
    isplitl [HaB]; · iexact HaB
    iexact HF
  iapply Hk
  iexact H

end Cert.KernelIdeal.Ring

end
-- ==== Proof.Deal.lean ====
/-
# What the launch deals

The ghost state of the launch — every cell's rounds, every receive slot's releases, every payment's token — dealt so that
each device holds what it pays with, and the credit of what the others owe it.
-/
module

public import proofs.«01_k».proof.Proof.Body
public import Idealize.ShloMosaic.Lib.Pipeline.CollectiveSegs

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg Window BodyObligation cellOf)

variable {F : FTy → Type} [FloatOps F]

local notation "𝕄" => MT nD τ sig ℕ (Elt F) ℕ UU ℕ

variable (xs : Dev nD → (cc0_stg0_0 : Ref sig .tc).ty.Contents (Elt F)) (ws : Dev nD → (cc0_stg1_0 : Ref sig .tc).ty.Contents (Elt F))

/-! ## Sums -/

/-- A family over `n` indices is a family over the interval from 0 to `n`. -/
theorem fin_Ico (n : ℕ) (Φ : ℕ → sProp 𝕄) : (bigSep Finset.univ fun i : Fin n => Φ i.val) = bigSep (Finset.Ico 0 n) Φ := by
  have h : Finset.Ico 0 n = Finset.univ.map (Fin.valEmbedding (n := n)) := by
    rw [Fin.map_valEmbedding_univ]; ext i; simp only [Finset.mem_Ico, Finset.mem_Iio]; omega
  rw [h, BI.bigSep_map]; rfl

/-- The same beneath another index. -/
theorem fam {α : Type} [Fintype α] (n : ℕ) (Φ : α → ℕ → sProp 𝕄) :
    (bigSep Finset.univ fun x : α × Fin n => Φ x.1 x.2.val) = bigSep Finset.univ fun a => bigSep (Finset.Ico 0 n) (Φ a) := by
  rw [bigSep_univ_prod]; exact bigSep_congr fun a _ => fin_Ico n (Φ a)

/-- A sum over the pairs with a small number. -/
theorem fam_range {α : Type} [Fintype α] [DecidableEq α] (n : ℕ) (Φ : α × ℕ → sProp 𝕄) :
    bigSep (Finset.univ ×ˢ Finset.range n) Φ = bigSep Finset.univ fun a => bigSep (Finset.Ico 0 n) fun i => Φ (a, i) := by
  have h : (Finset.univ ×ˢ Finset.range n : Finset (α × ℕ))
      = (Finset.univ : Finset (α × Fin n)).map ⟨fun x => (x.1, x.2.val), fun a b h => Prod.ext (Prod.mk.inj h).1 (Fin.ext (Prod.mk.inj h).2)⟩ := by
    ext ⟨a, i⟩
    simp only [Finset.mem_product, Finset.mem_univ, true_and, Finset.mem_range, Finset.mem_map, Function.Embedding.coeFn_mk, Prod.exists, Prod.mk.injEq]
    constructor
    · intro hi; exact ⟨a, ⟨i, hi⟩, rfl⟩
    · rintro ⟨_, j, h⟩; cases h; exact j.isLt
  rw [h, BI.bigSep_map]
  exact fam n fun a i => Φ (a, i)

/-- Two families one beneath the other may be exchanged. -/
theorem comm_sum {α β : Type} [Fintype α] [Fintype β] (Φ : α → β → sProp 𝕄) :
    (bigSep Finset.univ fun a => bigSep Finset.univ fun b => Φ a b) = bigSep Finset.univ fun b => bigSep Finset.univ fun a => Φ a b := by
  rw [← bigSep_univ_prod (fun x : α × β => Φ x.1 x.2), ← bigSep_univ_prod (fun x : β × α => Φ x.2 x.1), bigSep_univ_equiv (Equiv.prodComm β α)]
  rfl

/-- A family over the devices, each summand moved around its own ring. -/
theorem around {J : Type} [Fintype J] (e : J → (Dev nD ≃ Dev nD)) (Φ : Dev nD → J → sProp 𝕄) :
    (bigSep Finset.univ fun c => bigSep Finset.univ fun j => Φ c j) = bigSep Finset.univ fun c => bigSep Finset.univ fun j => Φ (e j c) j := by
  rw [comm_sum, comm_sum (fun c j => Φ (e j c) j)]
  exact bigSep_congr fun j _ => bigSep_univ_equiv (e j) (fun c => Φ c j)

/-! ## The cells and the tokens -/

/-- All cells of all devices. -/
def ringCells : Finset (GSem nD τ sig) := Finset.univ.map ⟨kcell, kcell_inj⟩

/-- Which payment into a device's cells: the two handshakes; the sends; the landings; the credits; the copies. -/
abbrev TI : Type := Fin 2 ⊕ ((Fin 2 × Fin 4) × Fin 7) ⊕ ((Fin 2 × Fin 4) × Fin 7) ⊕ (Fin 2 × Fin 24) ⊕ (Fin 2 × Fin 4)
/-- Its cell, its round and its number in the round. -/
def tokIx : TI → CK × ℕ × ℕ
  | .inl d => (kB, 0, d.val)
  | .inr (.inl (ρ, i)) => (kS ρ.1 ρ.2, i.val, 0)
  | .inr (.inr (.inl (ρ, i))) => (kR ρ.1 ρ.2, i.val, 0)
  | .inr (.inr (.inr (.inl (δ, i)))) => (kC δ, 0, i.val)
  | .inr (.inr (.inr (.inr (δ, i)))) => (kO δ, i.val, 0)
/-- Different tokens of a device belong to different duties. -/
theorem tokIx_inj : Function.Injective tokIx := by
  have h : ∀ a b : TI, tokIx a = tokIx b → a = b := by
    rintro (a | ⟨a, i⟩ | ⟨a, i⟩ | ⟨a, i⟩ | ⟨a, i⟩) (b | ⟨b, j⟩ | ⟨b, j⟩ | ⟨b, j⟩ | ⟨b, j⟩) h <;>
      simp only [tokIx, Prod.mk.injEq, Sum.inr.injEq, Sum.inl.injEq, reduceCtorEq, false_and, true_and, and_true, Prod.mk.eta] at h
    · rw [Fin.ext h]
    · rw [h.1, Fin.ext h.2]
    · rw [h.1, Fin.ext h.2]
    · rw [h.1, Fin.ext h.2]
    · rw [h.1, Fin.ext h.2]
  exact fun a b => h a b
/-- The duty a token stands for. -/
def tokOf (x : Dev nD × TI) : GSem nD τ sig × ℕ × ℕ := (cell x.1 (tokIx x.2).1, (tokIx x.2).2)
/-- Different tokens stand for different duties. -/
theorem tokOf_inj : Function.Injective tokOf := fun a b h => by
  obtain ⟨h1, h2⟩ := Prod.mk.inj h
  obtain ⟨h3, h4⟩ := Prod.mk.inj (kcell_inj (a₁ := (a.1, (tokIx a.2).1)) (a₂ := (b.1, (tokIx b.2).1)) h1)
  exact Prod.ext h3 (tokIx_inj (Prod.ext h4 h2))
/-- All duties of all cells. -/
def ringToks : Finset (GSem nD τ sig × ℕ × ℕ) := Finset.univ.map ⟨tokOf, tokOf_inj⟩

/-- The tokens of the payments into device `c`'s cells. -/
def toks (c : Dev nD) : sProp 𝕄 :=
  iprop((dutyTok ER (cell c kB) 0 0 ∗ dutyTok ER (cell c kB) 0 1)
    ∗ (bigSep Finset.univ fun ρ : Fin 2 × Fin 4 => bigSep (Finset.Ico 0 7) fun i => dutyTok ER (cell c (kS ρ.1 ρ.2)) i 0)
    ∗ (bigSep Finset.univ fun ρ : Fin 2 × Fin 4 => bigSep (Finset.Ico 0 7) fun i => dutyTok ER (cell c (kR ρ.1 ρ.2)) i 0)
    ∗ (bigSep Finset.univ fun δ : Fin 2 => bigSep (Finset.Ico 0 24) fun i => dutyTok ER (cell c (kC δ)) 0 i)
    ∗ bigSep Finset.univ fun δ : Fin 2 => bigSep (Finset.Ico 0 4) fun i => dutyTok ER (cell c (kO δ)) i 0)

/-- The tokens of a device's duties, sorted by cell. -/
theorem toks_eq (c : Dev nD) : (bigSep Finset.univ fun j : TI => dutyTok ER (tokOf (c, j)).1 (tokOf (c, j)).2.1 (tokOf (c, j)).2.2) = (toks c : sProp 𝕄) := by
  unfold toks
  rw [bigSep_univ_sum, bigSep_univ_sum, bigSep_univ_sum, bigSep_univ_sum, bigSep_fin_two,
    ← fam 7 (fun (ρ : Fin 2 × Fin 4) i => (dutyTok ER (cell c (kS ρ.1 ρ.2)) i 0 : sProp 𝕄)),
    ← fam 7 (fun (ρ : Fin 2 × Fin 4) i => (dutyTok ER (cell c (kR ρ.1 ρ.2)) i 0 : sProp 𝕄)),
    ← fam 24 (fun (δ : Fin 2) i => (dutyTok ER (cell c (kC δ)) 0 i : sProp 𝕄)),
    ← fam 4 (fun (δ : Fin 2) i => (dutyTok ER (cell c (kO δ)) i 0 : sProp 𝕄))]
  rfl

/-- What device `c` is dealt of the receive slots' releases: the slots' invariants, its own positions, the rights to write to its slots. -/
def slotG (c : Dev nD) : sProp 𝕄 :=
  iprop((∃ In : SlotKey → ℕ, bigSep Finset.univ fun k : SlotKey => slotInv ES (In k) k (rbAny (F := F) k.1 k.2.1 k.2.2))
    ∗ (bigSep Finset.univ fun ρ : Fin 2 × Fin 4 => readerAt ES ((c, ρ) : SlotKey) 0)
    ∗ bigSep Finset.univ fun ρ : Fin 2 × Fin 4 => bigSep (Finset.Ico 0 7) fun i => writeTok ES ((c, ρ) : SlotKey) (i + 1))

/-- The releases of the receive slots are dealt out, each slot's to its reader. -/
theorem fund_slots : BI.own (ES (F := F) (initSlots Finset.univ 7)) ⊢ |={Set.univ}=> bigSep Finset.univ (slotG (F := F)) := by
  have hp : ∀ (In : SlotKey → ℕ), (bigSep Finset.univ fun k : SlotKey => slotInv ES (In k) k (rbAny (F := F) k.1 k.2.1 k.2.2))
      ⊢ bigSep Finset.univ fun _ : Dev nD => iprop(∃ In : SlotKey → ℕ, bigSep Finset.univ fun k : SlotKey => slotInv ES (In k) k (rbAny (F := F) k.1 k.2.1 k.2.2)) := fun In => by
    have h : ∀ _ : Dev nD, (bigSep Finset.univ fun k : SlotKey => slotInv ES (In k) k (rbAny (F := F) k.1 k.2.1 k.2.2))
        ⊢ iprop(∃ In : SlotKey → ℕ, bigSep Finset.univ fun k : SlotKey => slotInv ES (In k) k (rbAny (F := F) k.1 k.2.1 k.2.2)) := fun _ => by
      iintro H; iexists In; iexact H
    exact (BI.bigSep_of_persistent Finset.univ _).trans (mono_univ h)
  iintro H
  imod (slots_init ES Finset.univ 7 (fun k : SlotKey => rbAny (F := F) k.1 k.2.1 k.2.2)) $$ H with ⟨%In, -, HI, Hr, Hw⟩
  imodintro
  unfold slotG
  rw [bigSep_sep', bigSep_sep']
  isplitl [HI]; · iapply (hp In); iexact HI
  isplitl [Hr]
  · iapply (Entails.of_eq (bigSep_univ_prod (fun k : SlotKey => (readerAt ES k 0 : sProp 𝕄)))); iexact Hr
  iapply (Entails.of_eq ((fam_range 7 (fun x : SlotKey × ℕ => (writeTok ES x.1 (x.2 + 1) : sProp 𝕄))).trans
    (bigSep_univ_prod (fun k : SlotKey => bigSep (Finset.Ico 0 7) fun i => (writeTok ES k (i + 1) : sProp 𝕄)))))
  iexact Hw

/-- What the launch deals device `c` before anything is passed round. -/
def G (c : Dev nD) : sProp 𝕄 :=
  iprop((bigSep Finset.univ fun k : CK => roundState ER (Rd xs ws) (cell c k) 0)
    ∗ (bigSep Finset.univ fun k : CK => reached ER (cell c k) 0)
    ∗ (bigSep Finset.univ fun k : CK => atPos ER (cell c k) 0 ∅ 0) ∗ toks c ∗ slotG c)

/-- The ring's resources at launch: each cell's, each device's tokens, each slot's. -/
theorem fund : BI.own (EX (F := F) (initOf ringCells ringToks, initSlots Finset.univ 7)) ⊢ |={Set.univ}=> bigSep Finset.univ (G xs ws) := by
  have hX (Φ : GSem nD τ sig → sProp 𝕄) : bigSep ringCells Φ = bigSep Finset.univ fun c : Dev nD => bigSep Finset.univ fun k : CK => Φ (cell c k) := by
    unfold ringCells; rw [BI.bigSep_map, bigSep_univ_prod]; rfl
  have hT : bigSep ringToks (fun x => (dutyTok ER x.1 x.2.1 x.2.2 : sProp 𝕄)) = bigSep Finset.univ fun c : Dev nD => toks c := by
    unfold ringToks; rw [BI.bigSep_map, bigSep_univ_prod]
    exact bigSep_congr fun c _ => toks_eq c
  iintro H
  ihave H := (show BI.own (EX (F := F) (initOf ringCells ringToks, initSlots Finset.univ 7)) ⊢ iprop(BI.own (ER (F := F) (initOf ringCells ringToks)) ∗ BI.own (ES (F := F) (initSlots Finset.univ 7))) from own_pair_emb EX _ _) $$ H
  icases H with ⟨HR, HS⟩
  imod (Rounds.fund ER (Rd xs ws) ringCells ringToks) $$ HR with ⟨Hst, Hr, Hat, Htok⟩
  imod (fund_slots (F := F)) $$ HS with HS
  imodintro
  unfold G
  rw [bigSep_sep', bigSep_sep', bigSep_sep', bigSep_sep', ← hX fun g => roundState ER (Rd xs ws) g 0, ← hX fun g => reached ER g 0, ← hX fun g => atPos ER g 0 ∅ 0, ← hT]
  isplitl [Hst]; · iexact Hst
  isplitl [Hr]; · iexact Hr
  isplitl [Hat]; · iexact Hat
  isplitl [Htok]; · iexact Htok
  iexact HS

/-! ## The tokens passed round -/

/-- What device `c` pays with. -/
def payToks (c : Dev nD) : sProp 𝕄 :=
  iprop((dutyTok ER (cell (up 0 c) kB) 0 0 ∗ dutyTok ER (cell (dn 0 c) kB) 0 1)
    ∗ (bigSep Finset.univ fun ρ : Fin 2 × Fin 4 => bigSep (Finset.Ico 0 7) (tokS c ρ.1 ρ.2))
    ∗ (bigSep Finset.univ fun δ : Fin 2 => bigSep (Finset.Ico 0 24) fun i => dutyTok ER (cell (up δ c) (kC δ)) 0 i)
    ∗ bigSep Finset.univ fun δ : Fin 2 => bigSep (Finset.Ico 0 4) fun i => dutyTok ER (cell c (kO δ)) i 0)

/-- Each token goes to the device that performs its duty. -/
theorem toks_around :
    iprop((bigSep Finset.univ fun c : Dev nD => toks (F := F) c)
      ∗ bigSep Finset.univ fun c : Dev nD => bigSep Finset.univ fun ρ : Fin 2 × Fin 4 => bigSep (Finset.Ico 0 7) fun i => writeTok ES ((c, ρ) : SlotKey) (i + 1))
      ⊢ bigSep Finset.univ fun c : Dev nD => payToks (F := F) c := by
  unfold toks payToks tokS
  simp only [bigSep_sep']
  rw [around (F := F) (fun ρ : Fin 2 × Fin 4 => ring ρ.1) (fun c ρ => bigSep (Finset.Ico 0 7) fun i => dutyTok ER (cell c (kR ρ.1 ρ.2)) i 0),
    around (F := F) (fun ρ : Fin 2 × Fin 4 => ring ρ.1) (fun c ρ => bigSep (Finset.Ico 0 7) fun i => writeTok ES ((c, ρ) : SlotKey) (i + 1)),
    around (F := F) (fun δ : Fin 2 => (ring δ).symm) (fun c δ => bigSep (Finset.Ico 0 24) fun i => dutyTok ER (cell c (kC δ)) 0 i),
    bigSep_univ_equiv (ring 0).symm (fun c : Dev nD => (dutyTok ER (cell c kB) 0 0 : sProp 𝕄)),
    bigSep_univ_equiv (ring 0) (fun c : Dev nD => (dutyTok ER (cell c kB) 0 1 : sProp 𝕄))]
  iintro ⟨⟨⟨H0, H1⟩, HS, HR, HC, HO⟩, HW⟩
  isplitl [H0 H1]
  · isplitl [H0]; · iexact H0
    iexact H1
  isplitl [HS HR HW]
  · isplitl [HS]; · iexact HS
    isplitl [HR]; · iexact HR
    iexact HW
  isplitl [HC]; · iexact HC
  iexact HO

/-! ## The invariants allocated -/

/-- Everything known at launch but the order of the waits. -/
def records (Kn : Dev nD × CK → ℕ) : sProp 𝕄 :=
  iprop((bigSep Finset.univ fun x : Dev nD × CK => cellInv ER (Rd xs ws) (Kn x) (kcell x)) ∗ bigSep Finset.univ fun x : Dev nD × CK => reached ER (kcell x) 0)
instance records_persistent (Kn : Dev nD × CK → ℕ) : BI.Persistent (records xs ws Kn) := by unfold records; infer_instance

/-- What the global step makes of the dealt state. -/
def G' (c : Dev nD) : sProp 𝕄 :=
  iprop(∃ (Kn : Dev nD × CK → ℕ) (In : SlotKey → ℕ), records xs ws Kn
    ∗ (bigSep Finset.univ fun k : SlotKey => slotInv ES (In k) k (rbAny (F := F) k.1 k.2.1 k.2.2)) ∗ linear c)

/-- A device's own semaphores at launch are its own cells at zero. -/
theorem sems_eq (c : Dev nD) : iprop(Pipeline.ownSems0 (Ix := ℕ) (Name := ℕ) (U := UU) (Lvl := ℕ) (Val := Elt F) (τ := τ) osem c ∗ unscopedSems0 c)
    = (iprop((bigSep Finset.univ fun k : OK => semVal (cell c (.inr k)) 0) ∗ semVal (cell c kB) 0) : sProp 𝕄) := by
  unfold unscopedSems0; rw [bigSep_eq_bigSepL_of_eq [SemLoc.reg barS] (by decide) (by decide)]; rfl
/-- With the barrier they are all its cells at zero. -/
theorem sems_all (c : Dev nD) : (bigSep Finset.univ fun k : CK => (semVal (cell c k) 0 : sProp 𝕄))
    = iprop(semVal (cell c kB) 0 ∗ bigSep Finset.univ fun k : OK => semVal (cell c (.inr k)) 0) := by
  rw [bigSep_univ_sum, show (Finset.univ : Finset Unit) = {()} from rfl, bigSep_singleton]; rfl

/-- A device's cells and slots become invariants. -/
theorem core_alloc (c : Dev nD) :
    iprop(Pipeline.ownSems0 (Ix := ℕ) (Name := ℕ) (U := UU) (Lvl := ℕ) (Val := Elt F) (τ := τ) osem c ∗ unscopedSems0 c ∗ G xs ws c)
      ⊢ |={Set.univ}=> iprop((bigSep Finset.univ fun k : CK => iprop(∃ κ : ℕ, cellInv ER (Rd xs ws) κ (cell c k)))
          ∗ (bigSep Finset.univ fun k : CK => reached ER (cell c k) 0) ∗ (bigSep Finset.univ fun k : CK => atPos ER (cell c k) 0 ∅ 0) ∗ toks c ∗ slotG c) := by
  have hone : ∀ k : CK, iprop(semVal (cell c k) 0 ∗ roundState ER (Rd xs ws) (cell c k) 0) ⊢ |={Set.univ}=> iprop(∃ κ : ℕ, cellInv ER (Rd xs ws) κ (cell c k)) := fun k =>
    (Rounds.body_intro ER (Rd xs ws) (cell c k)).trans inv_alloc
  have hall : iprop((bigSep Finset.univ fun k : CK => semVal (cell c k) 0) ∗ bigSep Finset.univ fun k : CK => roundState ER (Rd xs ws) (cell c k) 0)
      ⊢ |={Set.univ}=> bigSep Finset.univ fun k : CK => iprop(∃ κ : ℕ, cellInv ER (Rd xs ws) κ (cell c k)) := by
    rw [← bigSep_sep']; exact (mono_univ hone).trans (bigSep_fupd _ _)
  unfold G
  iintro ⟨Hos, Hus, Hst, Hr, Hat, Htok, Hsl⟩
  ihave Hv := (Entails.of_eq (sems_eq (F := F) c)) $$ [Hos Hus]
  · isplitl [Hos]; · iexact Hos
    iexact Hus
  icases Hv with ⟨Ho, HB⟩
  imod hall $$ [Ho HB Hst] with HI
  · isplitl [Ho HB]
    · rw [sems_all]
      isplitl [HB]; · iexact HB
      iexact Ho
    iexact Hst
  imodintro
  isplitl [HI]; · iexact HI
  isplitl [Hr]; · iexact Hr
  isplitl [Hat]; · iexact Hat
  isplitl [Htok]; · iexact Htok
  iexact Hsl

/-- What the devices hold, regrouped so that each has its own share and all have the shared facts. -/
theorem regroup :
    (bigSep Finset.univ fun c : Dev nD => iprop((bigSep Finset.univ fun k : CK => iprop(∃ κ : ℕ, cellInv ER (Rd xs ws) κ (cell c k)))
          ∗ (bigSep Finset.univ fun k : CK => reached ER (cell c k) 0) ∗ (bigSep Finset.univ fun k : CK => atPos ER (cell c k) 0 ∅ 0) ∗ toks c ∗ slotG c))
      ⊢ bigSep Finset.univ (G' xs ws) := by
  have hone : ∀ (Kn : Dev nD × CK → ℕ) (c : Dev nD), iprop(records xs ws Kn ∗ ((bigSep Finset.univ fun k : CK => atPos ER (cell c k) 0 ∅ 0) ∗ (payToks c
      ∗ ((∃ In : SlotKey → ℕ, bigSep Finset.univ fun k : SlotKey => slotInv ES (In k) k (rbAny (F := F) k.1 k.2.1 k.2.2))
        ∗ bigSep Finset.univ fun ρ : Fin 2 × Fin 4 => readerAt ES ((c, ρ) : SlotKey) 0)))) ⊢ G' xs ws c := fun Kn c => by
    unfold G' linear payToks
    iintro ⟨HR, Hat, ⟨HB, HS, HC, HO⟩, ⟨%In, HI⟩, Hr⟩
    iexists Kn; iexists In
    isplitl [HR]; · iexact HR
    isplitl [HI]; · iexact HI
    isplitl [Hat]; · iexact Hat
    isplitl [HB]; · iexact HB
    isplitl [Hr]; · iexact Hr
    isplitl [HS]; · iexact HS
    isplitl [HC]; · iexact HC
    iexact HO
  unfold slotG
  rw [bigSep_sep', bigSep_sep', bigSep_sep', bigSep_sep', bigSep_sep', bigSep_sep',
    ← bigSep_univ_prod (fun x : Dev nD × CK => iprop(∃ κ : ℕ, cellInv ER (Rd xs ws) κ (kcell x))),
    ← bigSep_univ_prod (fun x : Dev nD × CK => (reached ER (kcell x) 0 : sProp 𝕄))]
  iintro ⟨HI, #HR, Hat, Htok, HIn, Hr, Hw⟩
  ihave HK := (BI.bigSep_exists_pi Finset.univ (fun (x : Dev nD × CK) (κ : ℕ) => (cellInv ER (Rd xs ws) κ (kcell x) : sProp 𝕄))) $$ HI
  icases HK with ⟨%Kn, #HI⟩
  ihave Hp := (toks_around (F := F)) $$ [Htok Hw]
  · isplitl [Htok]; · iexact Htok
    iexact Hw
  iapply (with_known (R := records xs ws Kn) (hone Kn))
  isplitr
  · unfold records
    isplitr; · iexact HI
    iexact HR
  rw [bigSep_sep', bigSep_sep', bigSep_sep']
  isplitl [Hat]; · iexact Hat
  isplitl [Hp]; · iexact Hp
  isplitl [HIn]; · iexact HIn
  iexact Hr

/-- The global step: every device's semaphores and dealt state together make every device's starting state. -/
theorem glob : (bigSep Finset.univ fun c => iprop(Pipeline.ownSems0 (Ix := ℕ) (Name := ℕ) (U := UU) (Lvl := ℕ) (Val := Elt F) (τ := τ) osem c ∗ unscopedSems0 c ∗ G xs ws c) : sProp 𝕄)
    ⊢ |={Set.univ}=> bigSep Finset.univ (G' xs ws) :=
  ((mono_univ (core_alloc xs ws)).trans (bigSep_fupd _ _)).trans (BI.fupd_mono (regroup xs ws))

/-! ## The credit -/

/-- What phase `q` of the neighbours owes device `c`: a landing, and (after step 0) a credit. -/
def credR (c : Dev nD) (q : ℕ) : sProp 𝕄 := cred (tallyAt (cell c (kR (pδ q) (pr q))) (2 * q + 3) N)
/-- The right to wait for the credit of phase `q`. -/
def credC (c : Dev nD) (q : ℕ) : sProp 𝕄 := if 8 ≤ q then cred (tallyAt (cell c (kC (pδ q))) (2 * q + 2) 1) else iprop(emp)

/-- What all devices owe from phase 0 on gives each its rights to wait. -/
theorem owed_cred (c : Dev nD) : (Pipeline.launchCred (fun d => owed d 0) c : sProp 𝕄) ⊢ bigSep (Finset.Ico 0 56) fun q => iprop(credR c q ∗ credC c q) := by
  have h : ∀ q, (Pipeline.launchCred (fun d => dueR d q + dueC d q) c : sProp 𝕄) ⊢ iprop(credR c q ∗ credC c q) := fun q => by
    rw [Pipeline.launchCred_add]
    refine BI.sep_mono (Pipeline.launchCred_tallyAt (csem (kR (pδ q) (pr q))) (dn (pδ q)) (up (pδ q)) (dn_up (pδ q)) (up_dn (pδ q)) (2 * q + 3) N c) ?_
    unfold dueC credC
    by_cases h8 : 8 ≤ q
    · rw [if_pos h8]
      simp only [if_pos h8]
      exact Pipeline.launchCred_tallyAt (csem (kC (pδ q))) (up (pδ q)) (dn (pδ q)) (up_dn (pδ q)) (dn_up (pδ q)) (2 * q + 2) 1 c
    · rw [if_neg h8]
      simp only [if_neg h8]
      exact Entails.of_eq (Pipeline.launchCred_zero c)
  have hs : (Pipeline.launchCred (fun d => owed d 0) c : sProp 𝕄) = bigSep (Finset.Ico 0 56) fun q => Pipeline.launchCred (fun d => dueR d q + dueC d q) c :=
    Pipeline.launchCred_sum (Finset.Ico 0 56) (fun q d => dueR d q + dueC d q) c
  rw [hs]
  exact bigSep_mono fun q _ => h q

/-- The phase of landing `i` of a ring. -/
def phR (x : (Fin 2 × Fin 4) × Fin 7) : ℕ := 8 * x.2.val + 2 * x.1.2.val + x.1.1.val
/-- The phase of credit `i` of a direction. -/
def phC (x : Fin 2 × Fin 24) : ℕ := 8 * (x.2.val / 4 + 1) + 2 * (x.2.val % 4) + x.1.val

/-- Different landings are of different phases. -/
theorem phR_inj : Function.Injective phR := fun ⟨⟨a, b⟩, i⟩ ⟨⟨a', b'⟩, i'⟩ h => by
  unfold phR at h; dsimp only at h
  obtain rfl : a = a' := Fin.ext (by omega)
  obtain rfl : b = b' := Fin.ext (by omega)
  obtain rfl : i = i' := Fin.ext (by omega)
  rfl
/-- Different credits are of different phases. -/
theorem phC_inj : Function.Injective phC := fun ⟨a, i⟩ ⟨a', i'⟩ h => by
  unfold phC at h; dsimp only at h
  obtain rfl : a = a' := Fin.ext (by omega)
  obtain rfl : i = i' := Fin.ext (by omega)
  rfl
/-- The landings are those of phases 0 to 55. -/
theorem phR_range : Finset.Ico 0 56 = Finset.univ.map ⟨phR, phR_inj⟩ := by decide +kernel
/-- The credits are those of phases 8 to 55. -/
theorem phC_range : Finset.Ico 8 56 = Finset.univ.map ⟨phC, phC_inj⟩ := by decide +kernel

/-- The rights to wait for landings, by ring instead of by phase. -/
theorem credR_all (c : Dev nD) : (bigSep (Finset.Ico 0 56) (credR (F := F) c)) = bigSep Finset.univ fun ρ : Fin 2 × Fin 4 => bigSep (Finset.Ico 0 7) (crdR c ρ.1 ρ.2) := by
  rw [phR_range, BI.bigSep_map, ← fam 7 (fun ρ : Fin 2 × Fin 4 => crdR (F := F) c ρ.1 ρ.2)]
  refine bigSep_congr fun x _ => ?_
  obtain ⟨⟨δ, r⟩, i⟩ := x
  have h1 : pδ (phR ((δ, r), i)) = δ := Fin.ext (show (8 * i.val + 2 * r.val + δ.val) % 2 = δ.val by omega)
  have h2 : pr (phR ((δ, r), i)) = r := Fin.ext (show (8 * i.val + 2 * r.val + δ.val) / 2 % 4 = r.val by omega)
  show credR c (phR ((δ, r), i)) = crdR c δ r i.val
  unfold credR crdR
  rw [h1, h2]; rfl
/-- The rights to wait for credits, by direction instead of by phase. -/
theorem credC_all (c : Dev nD) : (bigSep (Finset.Ico 8 56) (credC (F := F) c))
    = bigSep Finset.univ fun δ : Fin 2 => bigSep (Finset.Ico 0 24) fun i => cred (tallyAt (cell c (kC δ)) (2 * (8 * (i / 4 + 1) + 2 * (i % 4) + δ.val) + 2) 1) := by
  rw [phC_range, BI.bigSep_map, ← fam 24 (fun (δ : Fin 2) i => (cred (tallyAt (cell c (kC δ)) (2 * (8 * (i / 4 + 1) + 2 * (i % 4) + δ.val) + 2) 1) : sProp 𝕄))]
  refine bigSep_congr fun x _ => ?_
  obtain ⟨δ, i⟩ := x
  have h1 : pδ (phC (δ, i)) = δ := Fin.ext (show (8 * (i.val / 4 + 1) + 2 * (i.val % 4) + δ.val) % 2 = δ.val by omega)
  show credC c (phC (δ, i)) = _
  unfold credC
  rw [if_pos (show 8 ≤ phC (δ, i) by unfold phC; dsimp only; omega), h1]; rfl

/-- What all devices owe at launch gives each all its rights to wait. -/
theorem creds_of_launch (c : Dev nD) : (Pipeline.launchCred O₀ c : sProp 𝕄) ⊢ creds c := by
  have e0 : (Pipeline.launchCred O₀ c : sProp 𝕄) = iprop((Pipeline.launchCred (fun d => owed d 0) c ∗ Pipeline.launchCred (fun d => tallyAt (cell (dn 0 d) kB) 1 1) c)
      ∗ Pipeline.launchCred (fun d => tallyAt (cell (up 0 d) kB) 1 1) c) := by
    rw [← Pipeline.launchCred_add, ← Pipeline.launchCred_add]; rfl
  have eb : (cred (tallyAt (cell c kB) 1 2) : sProp 𝕄) = iprop(cred (tallyAt (cell c kB) 1 1) ∗ cred (tallyAt (cell c kB) 1 1)) := by
    rw [show (tallyAt (cell c kB) 1 2 : CellTallies nD τ sig ℕ) = tallyAt (cell c kB) 1 1 + tallyAt (cell c kB) 1 1 from (tallyAt_add (cell c kB) 1 1 1).symm]
    exact BI.Entails.antisymm (cred_add _ _).1 (cred_add _ _).2
  have hC : (bigSep (Finset.Ico 0 56) (credC (F := F) c)) ⊢ bigSep (Finset.Ico 8 56) (credC (F := F) c) := by
    rw [show bigSep (Finset.Ico 0 56) (credC (F := F) c) = iprop(bigSep (Finset.Ico 8 56) (credC c) ∗ bigSep (Finset.Ico 0 56 \ Finset.Ico 8 56) (credC c)) from
      BI.bigSep_sdiff_split (by decide)]
    iintro ⟨H, -⟩; iexact H
  have hO : (Pipeline.launchCred (fun d => owed d 0) c : sProp 𝕄) ⊢ iprop((bigSep (Finset.Ico 0 56) (credR c)) ∗ bigSep (Finset.Ico 0 56) (credC c)) := by
    refine (owed_cred c).trans ?_
    rw [bigSep_sep']
  rw [e0]
  unfold creds
  rw [eb, ← credR_all, ← credC_all]
  iintro ⟨⟨HO, Hd⟩, Hu⟩
  ihave H := hO $$ HO
  icases H with ⟨HR, HC⟩
  isplitl [Hd Hu]
  · isplitl [Hd]
    · iapply (Pipeline.launchCred_tallyAt (csem kB) (dn 0) (up 0) (dn_up 0) (up_dn 0) 1 1 c); iexact Hd
    iapply (Pipeline.launchCred_tallyAt (csem kB) (up 0) (dn 0) (up_dn 0) (dn_up 0) 1 1 c); iexact Hu
  isplitl [HR]; · iexact HR
  iapply hC; iexact HC

end Cert.KernelIdeal.Ring

end
-- ==== Proof.Run.lean ====
/-
# The run

The body's theorem put into the launch: at any float values, from any memory with zero counters, every execution ends, with
every device's result at `outW` of what the devices were given, the arguments as they were and every counter at zero.
-/
module

public import proofs.«01_k».proof.Proof.Deal
public import proofs.«01_k».proof.Proof.Gen.KernelIdeal.Launch
public import proofs.«01_k».proof.Proof.Gen.KernelIdeal.Points

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg Window BodyObligation cellOf)

variable {F : FTy → Type} [FloatOps F]

local notation "𝕄" => MT nD τ sig ℕ (Elt F) ℕ UU ℕ

variable (xs : Dev nD → (cc0_stg0_0 : Ref sig .tc).ty.Contents (Elt F)) (ws : Dev nD → (cc0_stg1_0 : Ref sig .tc).ty.Contents (Elt F))

variable (m : (ℓ : Loc nD τ sig) → Buf (Elt F) ℓ) (g : Dev nD → PrngReg)

/-- What device `c` was given: its columns of `x`, -/
def xst (c : Dev nD) : (cc0_stg0_0 : Ref sig .tc).ty.Contents (Elt F) := (win0_0.blk t0_0).view.read (Elt F) (m ((c : Thread nD τ).loc main_arg0))
/-- and its rows of `w`. -/
def wst (c : Dev nD) : (cc0_stg1_0 : Ref sig .tc).ty.Contents (Elt F) := (win0_1.blk t0_0).view.read (Elt F) (m ((c : Thread nD τ).loc main_arg1))

/-! ## The point's data -/

/-- Before the body: what the launch dealt, the memory the body works in. -/
def start (c : Dev nD) : sProp 𝕄 :=
  iprop((∃ (Kn : Dev nD × CK → ℕ) (In : SlotKey → ℕ), Rec (xst m) (wst m) Kn In ∗ linear c) ∗ creds c ∗ anyBuf c main_v1)
/-- What a device holds before the body. -/
def Φ₀ (c : Dev nD) : sProp 𝕄 := iprop(start m c ∗ mems c)
/-- After it: the result, the counters at zero. -/
def exit (c : Dev nD) : sProp 𝕄 := iprop((((c : Thread nD τ).loc main_v1) ↦{fullShare} outW (xst m) (wst m) c) ∗ semVal (cell c kB) 0)
/-- What it holds after it. -/
def Φ₁ (c : Dev nD) : sProp 𝕄 := iprop(exit m c ∗ (bigSep Finset.univ fun k : OK => semVal (cell c (.inr k)) 0) ∗ mems c)

/-- The two operands' windows, whole and read only, around the body. -/
def dats (_ : Fin 1) (c : Dev nD) : Dat τ (Elt F) ℕ ℕ UU ℕ cfg0 c where
  A w := m ((cfg0.win w).arr.view.loc (c : Thread nD τ))
  after w _ := match w with
    | ⟨0, _⟩ => xst m c
    | ⟨1, _⟩ => wst m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-! ## The body's obligation -/

/-- Owning a whole buffer with contents is owning its location with them. -/
theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A whole staged buffer with contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the launch gives the body. -/
def bodyPre (c : Dev nD) : sProp 𝕄 :=
  iprop(Φ₀ m c ∗ (dats m 0 c).owesAt 0 t0_0.castSucc
    ∗ (∃ d, stg c cc0_stg0_0 ((dats m 0 c).before (0 : Fin 2) t0_0 d)) ∗ (∃ d, stg c cc0_stg1_0 ((dats m 0 c).before (1 : Fin 2) t0_0 d)))
/-- What the body gives back. -/
def bodyPost (c : Dev nD) : sProp 𝕄 :=
  iprop(Φ₁ m c ∗ (dats m 0 c).owesAt 0 t0_0.succ ∗ stg c cc0_stg0_0 (xst m c) ∗ stg c cc0_stg1_0 (wst m c))

/-- The first window holds the device's block of `x`. -/
theorem before_x (c : Dev nD) (d) : (dats m 0 c).before (0 : Fin 2) t0_0 d = xst m c := by
  unfold Dat.before; rw [if_pos (fetch0_0 t0_0)]; rfl
/-- The second holds its block of `w`. -/
theorem before_w (c : Dev nD) (d) : (dats m 0 c).before (1 : Fin 2) t0_0 d = wst m c := by
  unfold Dat.before; rw [if_pos (fetch0_1 t0_0)]; rfl

/-- The body, from what the launch gives to what it must give back. -/
theorem sound_body (c : Dev nD) : bodyPre m c ⊢ WP c ringBody (fun _ => bodyPost m c) := by
  unfold bodyPre Φ₀ start Dat.owesAt Pipeline.owesWithin
  rw [show (dats m 0 c).owed t0_0.castSucc = O₀ c from rfl]
  iintro ⟨⟨⟨⟨%Kn, %In, #HR, Hlin⟩, Hcr, Hv⟩, Hm⟩, ⟨%W, %hW, HO⟩, ⟨%d0, %g0, %hg0, Hx⟩, ⟨%d1, %g1, %hg1, Hw⟩⟩
  have hx : g0 = xst m c := hg0.trans (before_x m c d0)
  have hw : g1 = wst m c := hg1.trans (before_w m c d1)
  subst hx; subst hw
  iapply (wp_body (xst m) (wst m) Kn In c (Q := fun _ => bodyPost m c)) $$ [Hlin Hcr Hm Hv Hx Hw HO]
  · isplitr; · iexact HR
    isplitl [Hlin]; · iexact Hlin
    isplitl [Hcr]; · iexact Hcr
    isplitl [Hm]; · iexact Hm
    isplitl [Hv]; · iexact Hv
    isplitl [Hx]; · unfold xPts; iexact Hx
    isplitl [Hw]; · unfold wPts; iexact Hw
    unfold owesAt; iexists W; iexact HO
  iintro ⟨Hx, Hw, Ho, Hm, Hv, Hz⟩
  imodintro
  ihave Hz := (Entails.of_eq (sems_all (F := F) c)) $$ Hz
  icases Hz with ⟨HzB, Hz⟩
  unfold bodyPost Φ₁ exit owesAt Dat.owesAt Pipeline.owesWithin
  rw [show (dats m 0 c).owed t0_0.succ = 0 from rfl]
  isplitl [Hv HzB Hz Hm]
  · isplitl [Hv HzB]
    · isplitl [Hv]; · iexact Hv
      iexact HzB
    isplitl [Hz]; · iexact Hz
    iexact Hm
  isplitl [Ho]
  · icases Ho with ⟨%W', Ho⟩
    iexists W'
    isplitr; · ipureintro; exact fun _ _ => Or.inl trivial
    iexact Ho
  isplitl [Hx]
  · iexists _; isplitr; · (ipureintro; rfl)
    unfold xPts; iexact Hx
  iexists _; isplitr; · (ipureintro; rfl)
  unfold wPts; iexact Hw

set_option maxRecDepth 65536 in
/-- The body meets the library's obligation. -/
theorem body_obligation (c : Dev nD) : BodyObligation (dats (F := F) m 0 c) (defs₀ (F := F)) 𝒱₀ 0 Set.univ := fun t => by
  rw [fin_N0 t]
  rw [bigSep_W0, bigSep_W0]
  simp only [owns_whole_eq]
  show bodyPre m c ⊢ wp frame (wpE (defs₀ (F := F)) 𝒱₀ c none) Set.univ
    (cc0_body (Memref.whole cc0_stg0_0) (Memref.isWhole_whole _) (Memref.whole cc0_stg1_0) (Memref.isWhole_whole _) (Memref.whole main_v1) (Memref.isWhole_whole _)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) (Memref.whole cc0_scratch4) (Memref.isWhole_whole _) cc0_scratch5 cc0_scratch6 cc0_scratch7 cc0_scratch8 cc0_scratch9 cc0_scratch10 cc0_scratch11)
    (fun _ => bodyPost m c)
  rw [cc0_body_eq_skeleton, body_eq]
  exact sound_body m c

/-! ## The launch -/

/-- The body's own semaphores are its cells but for the barrier. -/
theorem ownSemFacts : Pipeline.OwnSemFacts cfg0.spec osem := by decide +kernel

/-- Every window has its buffer's full share. -/
theorem share_eq (c : Dev nD) (w : Fin cfg0.W) : (dats m 0 c).share w = fullShare := by unfold Dat.share; split <;> rfl

/-- The resources at launch. -/
def u₀ : UU := (initOf (Pipeline.cells cfgs cellOf_inj) (Pipeline.launchToks cfgs cellOf_inj), (initOf ringCells ringToks, initSlots Finset.univ 7))

/-- What a device's launch gives, as what it starts with. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (g c) ∗ G' (xst m) (wst m) c)
      ⊢ |={Set.univ}=> iprop(start m c ∗ emp) := by
  rw [Pipeline.unscopedRestP_none, unscopedRest0_eq]
  unfold start G' records Rec anyBuf
  iintro ⟨Hv, Hlev, Hcr, -, ⟨%Kn, %In, ⟨HI, Hr⟩, HS, Hlin⟩⟩
  imodintro
  isplitl
  · isplitl [Hlev HI Hr HS Hlin]
    · iexists Kn; iexists In
      isplitr [Hlin]
      · isplitl [HI]; · iexact HI
        isplitl [Hr]; · iexact Hr
        isplitl [HS]; · iexact HS
        iexact Hlev
      iexact Hlin
    isplitl [Hcr]; · iapply (creds_of_launch (F := F) c); iexact Hcr
    iexists _; iexact Hv
  iempintro

/-- That with the scratch is what it holds before the body. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  rw [mems_eq]
  unfold anyBuf
  iintro ⟨Hs, -, H0, H1, H2, H3, H4⟩
  isplitl [Hs]; · iexact Hs
  isplitl [H0 H2]
  · isplitl [H0]; · iexact H0
    iexact H2
  isplitl [H1 H3]
  · isplitl [H1]; · iexact H1
    iexact H3
  iexact H4

/-- What it holds after the body is what it leaves with, its semaphores at zero and the scratch. -/
theorem phi1_exit (c : Dev nD) :
    (dats m 0 c).Φ (Fin.last cfg0.N) ⊢ iprop(exit m c ∗ Pipeline.ownSems0 osem c ∗ Pipeline.scopedRest cfg0.spec c) := by
  rw [show (dats m 0 c).Φ (Fin.last cfg0.N) = Φ₁ m c from rfl, scopedRest0_eq]
  unfold Φ₁
  rw [mems_eq]
  unfold anyBuf
  iintro ⟨He, Hz, ⟨H0, H2⟩, ⟨H1, H3⟩, H4⟩
  isplitl [He]; · iexact He
  isplitl [Hz]; · unfold Pipeline.ownSems0; iexact Hz
  isplitl [H0]; · iexact H0
  isplitl [H1]; · iexact H1
  isplitl [H2]; · iexact H2
  isplitl [H3]; · iexact H3
  iexact H4

/-- The windows' own waits are allowed. -/
theorem waits (c : Dev nD) : (levAts L lv : sProp 𝕄) ⊢ Pipeline.cellsWaits cfgs (dats m) 0 0 c :=
  Pipeline.cellsWaits_intro cfgs (dats m) 0 0 c fun w s t => by
    rcases t with ⟨_ | _, ht⟩
    · exact mayWait c _ (by decide) (above_O₀ c)
    · exact mayWait c _ (by decide) (above_zero 0)

/-- What the run leaves on every device: the arrays of the two arguments as they were, the result computed. -/
def QC : PUnit × MemSt nD τ sig (Elt F) → Prop := fun r => ∀ c : Dev nD,
  (r.2.mem ((c : Thread nD τ).loc main_arg0) = m ((c : Thread nD τ).loc main_arg0) ∧ r.2.mem ((c : Thread nD τ).loc main_arg1) = m ((c : Thread nD τ).loc main_arg1))
    ∧ r.2.mem ((c : Thread nD τ).loc main_v1) = outW (xst m) (wst m) c

/-- The one semaphore outside the launch is the barrier. -/
theorem unscoped_eq (c : Dev nD) : (unscopedSems0 c : sProp 𝕄) = semVal (cell c kB) 0 := by
  unfold unscopedSems0; rw [bigSep_eq_bigSepL_of_eq [SemLoc.reg barS] (by decide) (by decide)]; rfl

/-- What a device leaves with fixes the final memory: the result is there, and the barrier is at zero. -/
theorem exit_read (c : Dev nD) (s' : Phys nD τ sig (Elt F)) :
    iprop(exit m c ∗ iprop(emp) ∗ SI s') ⊢ |={Set.univ}=> iprop(⌜s'.mem.mem ((c : Thread nD τ).loc main_v1) = outW (xst m) (wst m) c
      ∧ ∀ sm : SemLoc sig, sm.isScoped .tc = false → s'.mem.sem ((c.tc : Thread nD τ), sm) = 0⌝ ∗ SI s') := by
  unfold exit
  iintro ⟨⟨Hv, HzB⟩, -, HSI⟩
  ihave %hv := (SI_pointsTo_agree (st := s') (ℓ := (c : Thread nD τ).loc main_v1) (I := Finset.univ) (q := fullShare) (f := outW (xst m) (wst m) c)) $$ [HSI Hv]
  · isplitl [HSI]; · iexact HSI
    iexact Hv
  ihave H := (Pipeline.unscopedSems0_read (X := semVal (cell c kB) 0) (c := c) ((Entails.of_eq (unscoped_eq (F := F) c).symm).trans fupd_intro) s') $$ [HzB HSI]
  · isplitl [HzB] <;> iassumption
  imod H with ⟨%hz, HSI⟩
  imodintro
  isplitr; · ipureintro; exact ⟨funext fun i => hv i (Finset.mem_univ i), hz⟩
  iexact HSI

set_option maxRecDepth 8000 in
/-- At the mesh of eight devices, at any float values, from any memory with zero counters: every weakly fair execution
    ends, and every final state is as `QC` says with every counter at zero. -/
theorem run_main : θ_run defs (onTc (τ := τ) (main (F := F))) ⟨m, fun _ => 0, g⟩ (fun r => QC m r ∧ r.2.sem = fun _ => 0) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m g main
    (hmain := fun _ => rfl)
    (hbody := fun c => (body_obligation m c).loose) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G (xst m) (wst m)) (G' := G' (xst m) (wst m)) (u₀ := u₀)
    (hu₀ := by
      unfold u₀
      iintro Hu
      ihave H := (ownU_pair _ _) $$ Hu
      icases H with ⟨HP, HX⟩
      imod (fund (xst m) (wst m)) $$ HX with HG
      imodintro
      isplitl [HP] <;> iassumption)
    (hglob := glob (xst m) (wst m))
    (hA := fun _ _ => rfl) (hpf := fun _ k => k.elim0)
    (X := start m) (Y := exit m) (Z := fun _ => iprop(emp))
    (hX := start_intro m g) (hin := phi0_intro m) (hout := phi1_exit m)
    (QY := fun c s => s.mem ((c : Thread nD τ).loc main_v1) = outW (xst m) (wst m) c ∧ ∀ sm : SemLoc sig, sm.isScoped .tc = false → s.sem ((c.tc : Thread nD τ), sm) = 0)
    (hY := exit_read m)
    (hQ := fun _ h hs => ⟨fun c => ⟨⟨((h c).1 0).trans ((dats (F := F) m 0 c).arrAt_in (0 : Fin 2) rfl _), ((h c).1 1).trans ((dats (F := F) m 0 c).arrAt_in (1 : Fin 2) rfl _)⟩, (h c).2.2.1⟩,
      sem_eq_zero hs fun c => (h c).2.2.2⟩)

end Cert.KernelIdeal.Ring

end
-- ==== Proof.Printed.lean ====
module

public import proofs.«01_k».proof.Defs
public import proofs.«01_k».proof.Proof.Run

/-! # The kernel before idealisation

No rule of idealisation is used, so the two printed programs are the same text under two names, and a theorem about the one at any floats
is a theorem about the other. -/

@[expose] public section

noncomputable section

namespace Cert.Printed

open Idealize.ShloMosaic Idealize.SL.Sem

variable {F : FTy → Type} [FloatOps F] [Cert.Kernel.Facts] [Cert.KernelIdeal.Facts]

/-- The two programs' kernel bodies are the same. -/
theorem bodies_eq : Cert.Kernel.defs₀ (F := F) = Cert.KernelIdeal.defs₀ (F := F) := by
  unfold Cert.Kernel.defs₀ Cert.KernelIdeal.defs₀
  refine congrArg Defs.onTc ?_
  funext i x
  match i, x with
  | 0, (t, s) => rfl

/-- So are their tables of bodies and pipelines. -/
theorem defs_eq : Cert.Kernel.defs (F := F) = Cert.KernelIdeal.defs (F := F) := congrArg (Pipeline.defs _) bodies_eq

/-- The kernel as printed, at the machine's floats: it ends, its arguments as they were and every counter at zero. -/
theorem frame_kernel : Cert.quiescent_Kernel := fun m g _ => by
  rw [defs_eq]
  exact (θ_run _ _ _).mono (fun _ h => ⟨fun c => (h.1 c).1, h.2⟩) (Cert.KernelIdeal.Ring.run_main m g)

end Cert.Printed

end
-- ==== Proof.Value.lean ====
/-
# The result over the reals

At the exact values a rounding is the identity, so what travels round the ring is a partial sum of products.  Here the result
of device `c` is read off at an index: `y · logistic y` where `y` adds, over the eight devices `d`, the product of `d`'s own
columns of `x` by `d`'s own rows of `w`.
-/
module

public import proofs.«01_k».proof.Proof.Memory
public import Idealize.ShloMosaic.Lib.MatmulPlain
public import Idealize.ShloMosaic.Lib.Pipeline.Value
public import Idealize.ShloMosaic.PureOps.Ideal.Laws

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx (ix2 eq_ix2)
open scoped BigOperators
open Idealize.ShloMosaic.Pipeline (Dat Cfg Window BodyObligation cellOf)

variable {F : FTy → Type} [FloatOps F]

local notation "𝕄" => MT nD τ sig ℕ (Elt F) ℕ UU ℕ

/-! ## Layout -/

/-- Row `a` of block `k` of `x`'s rows, column `b` of strip `4 δ + r`. -/
def rowAt (k : Fin 8) (a : Fin 512) : Fin 4096 := ⟨512 * k.val + a.val, by omega⟩
/-- Column `b` of strip `4 δ + r`. -/
def colAt (δ : Fin 2) (r : Fin 4) (b : Fin 1024) : Fin 8192 := ⟨1024 * (4 * δ.val + r.val) + b.val, by omega⟩

/-- The block of rows device `c` computes at step `s`. -/
def blk (δ : Fin 2) (c : Fin 8) (s : ℕ) : Fin 8 := match δ with
  | 0 => c - Fin.ofNat 8 s - 1
  | 1 => c + Fin.ofNat 8 s + 1

/-- The block of `x` used at step `s` starts at a multiple of 512 rows and at column 0. -/
theorem xOff_blk : ∀ (δ : Fin 2) (c : Fin 8) (s : Fin 8), xOff δ c s 0 = 512 * (blk δ c s.val).val ∧ xOff δ c s 1 = 0 := by decide +kernel
/-- The upstream neighbour's block at a step is the device's own at the step after. -/
theorem blk_up : ∀ (δ : Fin 2) (c : Fin 8) (s : Fin 8), blk δ (up δ c) s.val = blk δ c (s.val + 1) := by decide +kernel
/-- At the last step a device works on its own rows. -/
theorem blk_last : ∀ (δ : Fin 2) (c : Fin 8), blk δ c 7 = c := by decide +kernel
/-- Going round the ring meets every device once. -/
theorem up_bij : ∀ (δ : Fin 2) (c : Fin 8), Function.Bijective (fun t : Fin 8 => (up δ)^[t.val] c) := by decide +kernel

section Reads

/-- The block of `x`, at an entry. -/
theorem xrd_at (xs : Dev nD → (cc0_stg0_0 : Ref sig .tc).ty.Contents (Elt F)) (c : Dev nD) (δ : Fin 2) (s : Fin 8) (a k : Fin 512) :
    xrd xs c δ s (ix2 a k) = xs c (ix2 (rowAt (blk δ c s.val) a) k) := by
  show xs c ((xR δ c s).emb (ix2 a k)) = _
  refine congrArg (xs c) (funext fun b => Fin.ext ?_)
  have h := xOff_blk δ c s
  rw [Rect.emb_apply]
  fin_cases b
  · show xOff δ c s 0 + 1 * a.val = 512 * (blk δ c s.val).val + a.val
    rw [h.1, one_mul]
  · show xOff δ c s 1 + 1 * k.val = k.val
    rw [h.2, one_mul, zero_add]

/-- Where a strip's entries lie. -/
theorem strip_at (δ : Fin 2) (r : Fin 4) (k : Fin 512) (b : Fin 1024) : (stripR δ r).emb (ix2 k b) = ix2 k (colAt δ r b) := by
  refine funext fun i => Fin.ext ?_
  rw [Rect.emb_apply]
  fin_cases i
  · show 0 + 1 * k.val = k.val
    rw [one_mul, zero_add]
  · show 1024 * (4 * δ.val + r.val) + 1 * b.val = 1024 * (4 * δ.val + r.val) + b.val
    rw [one_mul]

/-- The strip of `w`, at an entry. -/
theorem wrd_at (ws : Dev nD → (cc0_stg1_0 : Ref sig .tc).ty.Contents (Elt F)) (c : Dev nD) (δ : Fin 2) (r : Fin 4) (k : Fin 512) (b : Fin 1024) :
    wrd ws c δ r (ix2 k b) = ws c (ix2 k (colAt δ r b)) := by
  show ws c ((stripR δ r).emb (ix2 k b)) = _
  rw [strip_at]

end Reads

/-! ## What travels -/

/-- Device `d`'s own product at row `R`, column `n`. -/
def part (X : Dev nD → S4096x512.Idx → EReal) (W : Dev nD → S512x8192.Idx → EReal) (d : Dev nD) (R : Fin 4096) (n : Fin 8192) : EReal :=
  ∑ k : Fin 512, X d (ix2 R k) * W d (ix2 k n)

variable (X : Dev nD → (cc0_stg0_0 : Ref sig .tc).ty.Contents (Elt Ideal)) (W : Dev nD → (cc0_stg1_0 : Ref sig .tc).ty.Contents (Elt Ideal))

/-- The own product over the reals, at an entry. -/
theorem prodV_at (vx : Vec Ideal S512x512 .bf16) (vw : Vec Ideal S512x1024 .bf16) (a : Fin 512) (b : Fin 1024) :
    prodV (F := Ideal) vx vw (ix2 a b) = ∑ k : Fin 512, (vx (ix2 a k) : EReal) * (vw (ix2 k b) : EReal) := by
  unfold prodV
  rw [shapeCast_self, shapeCast_self]
  refine (Ideal.matmul_plain_apply (M := 512) (K := 512) (N := 1024) (φ₁ := .bf16) (φ₂ := .bf16) none vx vw (constant S512x1024 .f32 0x00000000#32) a b).trans ?_
  rw [show (constant (F := Ideal) S512x1024 .f32 0x00000000#32 : FVec Ideal S512x1024 .f32) (ix2 a b) = (0 : EReal) from Ideal.ofBits_zero_f32, zero_add]

/-- A device's product at step `s` is its part at the rows of that step's block. -/
theorem prod_part (c : Dev nD) (δ : Fin 2) (r : Fin 4) (s : Fin 8) (a : Fin 512) (b : Fin 1024) :
    prodV (F := Ideal) (xrd X c δ s) (wrd W c δ r) (ix2 a b) = part X W c (rowAt (blk δ c s.val) a) (colAt δ r b) := by
  rw [prodV_at]; unfold part
  exact Finset.sum_congr rfl fun k _ => by rw [xrd_at, wrd_at]

/-- A sent block as a matrix. -/
def flat {e : EltTy} (v : Vec Ideal S1x512x1024 e) : Vec Ideal S512x1024 e := shapeCast S512x1024 v shapeCasts_S1x512x1024_S512x1024

/-- Giving a block the shape of a slot and reading it back changes nothing. -/
theorem flat_cast {e : EltTy} (v : Vec Ideal S512x1024 e) : flat (shapeCast S1x512x1024 v shapeCasts_S512x1024_S1x512x1024) = v :=
  shapeCast_shapeCast v _ _

/-- The product added to what arrived, at an entry. -/
theorem sumV_at (vx : Vec Ideal S512x512 .bf16) (vw : Vec Ideal S512x1024 .bf16) (vr : Vec Ideal S1x512x1024 .bf16) (j : S512x1024.Idx) :
    sumV (F := Ideal) vx vw vr j = (prodV (F := Ideal) vx vw j : EReal) + (flat vr j : EReal) := rfl

/-- What device `c` sends at step `s`: the parts of the `s + 1` devices up the ring, at the rows of its block. -/
theorem sent_at (δ : Fin 2) (r : Fin 4) (a : Fin 512) (b : Fin 1024) : ∀ (s : ℕ), s < 7 → ∀ c : Dev nD,
    flat (sent X W δ r s c) (ix2 a b) = ∑ t ∈ Finset.range (s + 1), part X W ((up δ)^[t] c) (rowAt (blk δ c s) a) (colAt δ r b)
  | 0, _, c => by
    rw [show sent X W δ r 0 c = shapeCast S1x512x1024 (prodV (xrd X c δ 0) (wrd W c δ r)) shapeCasts_S512x1024_S1x512x1024 from rfl, flat_cast, prod_part]
    rw [show Finset.range (0 + 1) = {0} from rfl, Finset.sum_singleton]; rfl
  | s + 1, hs, c => by
    have ih := sent_at δ r a b s (by omega) (up δ c)
    rw [show sent X W δ r (s + 1) c = shapeCast S1x512x1024 (sumV (xrd X c δ (Fin.ofNat 8 (s + 1))) (wrd W c δ r) (sent X W δ r s (up δ c))) shapeCasts_S512x1024_S1x512x1024 from rfl,
      flat_cast, sumV_at, ih, prod_part, Finset.sum_range_succ' _ (s + 1)]
    have h1 : (Fin.ofNat 8 (s + 1)).val = s + 1 := Nat.mod_eq_of_lt (by omega)
    rw [h1, blk_up δ c ⟨s, by omega⟩]
    exact add_comm _ _

/-- The finished sum of device `c` at its own row `a`, column `n`: every device's part. -/
def total (R : Fin 4096) (n : Fin 8192) : EReal := ∑ d : Dev nD, part X W d R n

/-- At the last step the running sum is the sum over all eight devices. -/
theorem sum_total (δ : Fin 2) (r : Fin 4) (c : Dev nD) (a : Fin 512) (b : Fin 1024) :
    sumV (F := Ideal) (xrd X c δ 7) (wrd W c δ r) (sent X W δ r 6 (up δ c)) (ix2 a b) = total X W (rowAt c a) (colAt δ r b) := by
  rw [sumV_at, sent_at X W δ r a b 6 (by omega), prod_part]
  rw [show blk δ (up δ c) 6 = blk δ c 7 from blk_up δ c 6, show (7 : Fin 8).val = 7 from rfl, blk_last]
  have h : ∑ t : Fin 8, part X W ((up δ)^[t.val] c) (rowAt c a) (colAt δ r b) = total X W (rowAt c a) (colAt δ r b) :=
    Function.Bijective.sum_comp (up_bij δ c) fun d => part X W d (rowAt c a) (colAt δ r b)
  rw [← h, Fin.sum_univ_eq_sum_range (fun t => part X W ((up δ)^[t] c) (rowAt c a) (colAt δ r b)) 8, Finset.sum_range_succ' _ 7]
  exact add_comm _ _

/-- A finished strip, at an entry: that sum `y` as `y · logistic y`. -/
theorem outV_at (δ : Fin 2) (r : Fin 4) (c : Dev nD) (a : Fin 512) (b : Fin 1024) :
    outV X W δ r c (ix2 a b) = (total X W (rowAt c a) (colAt δ r b) : EReal) * Ideal.logistic (total X W (rowAt c a) (colAt δ r b)) := by
  rw [← sum_total]
  exact congrFun (flat_cast (e := .f32) (mulf (extf .f32 (sumV (F := Ideal) (xrd X c δ 7) (wrd W c δ r) (sent X W δ r 6 (up δ c))) bitsLt_bf16_f32)
    (logistic (extf .f32 (sumV (F := Ideal) (xrd X c δ 7) (wrd W c δ r) (sent X W δ r 6 (up δ c))) bitsLt_bf16_f32)))) (ix2 a b)

/-- The result of device `c` at its row `a`, column `n`. -/
theorem outW_at (c : Dev nD) (a : Fin 512) (n : Fin 8192) :
    outW X W c (ix2 a n) = (total X W (rowAt c a) n : EReal) * Ideal.logistic (total X W (rowAt c a) n) := by
  obtain ⟨δ, r, b, rfl⟩ : ∃ (δ : Fin 2) (r : Fin 4) (b : Fin 1024), n = colAt δ r b :=
    ⟨⟨n.val / 4096, by omega⟩, ⟨n.val / 1024 % 4, by omega⟩, ⟨n.val % 1024, by omega⟩, Fin.ext (by simp only [colAt]; omega)⟩
  rw [← strip_at, outW_strip, outV_at]

end Cert.KernelIdeal.Ring

end
-- ==== Proof.Compare.lean ====
/-
# The kernel's result and the reference's

The whole product of the reference, summed over 4096 columns, is the sum of the eight devices' products over 512 each; where
every device's product lies within 7.5 the sum lies within 60, where the reference's cut of the exponent does nothing.
-/
module

public import proofs.«01_k».proof.Defs
public import proofs.«01_k».proof.Proof.Run
public import proofs.«01_k».proof.Proof.Value
public import proofs.«01_k».proof.Proof.Gen.ReferenceIdeal.Run

@[expose] public section

noncomputable section

namespace Cert.Compare

open Idealize.ShloMosaic Idealize.SL.Sem
open Idealize.ShloMosaic.TcCoe
open Idealize.ShloMosaic.ValueIdx (ix2 eq_ix2)
open Cert.KernelIdeal.Ring Cert.KernelIdeal
open scoped BigOperators

/-! ## Literals -/

/-- The literal 1. -/
theorem lit_one : Ideal.ofBits .f32 0x3F800000#32 = ((1 : ℝ) : EReal) := by
  simp [Ideal.ofBits, Ideal.ieee, -EReal.coe_mul, -EReal.coe_neg, -EReal.coe_one]; norm_num
/-- The literal 60. -/
theorem lit_sixty : Ideal.ofBits .f32 0x42700000#32 = ((60 : ℝ) : EReal) := by
  simp [Ideal.ofBits, Ideal.ieee, -EReal.coe_mul, -EReal.coe_neg]; norm_num
/-- The literal −60. -/
theorem lit_neg : Ideal.ofBits .f32 0xC2700000#32 = ((-60 : ℝ) : EReal) := by
  simp [Ideal.ofBits, Ideal.ieee, -EReal.coe_mul, -EReal.coe_neg]; norm_num
/-- The literal 7.5. -/
theorem lit_bound : Ideal.ofBits .f32 0x40F00000#32 = ((7.5 : ℝ) : EReal) := by
  simp [Ideal.ofBits, Ideal.ieee, -EReal.coe_mul, -EReal.coe_neg]; norm_num

/-! ## The epilogue -/

/-- One plus an exponential is not zero. -/
theorem denom_ne (y : EReal) : 1 + Ideal.exp y ≠ 0 := by
  have h : (0 : EReal) ≤ Ideal.exp y := by
    induction y with
    | bot => exact le_refl _
    | coe r => exact EReal.coe_nonneg.mpr (Real.exp_pos r).le
    | top => exact le_top
  exact (lt_of_lt_of_le zero_lt_one (le_add_of_nonneg_right h)).ne'

/-- Within 60 the reference's epilogue is the kernel's `y · logistic y`. -/
theorem silu_eq (y : EReal) (h₁ : ((-60 : ℝ) : EReal) ≤ y) (h₂ : y ≤ ((60 : ℝ) : EReal)) :
    Ideal.div y (1 + Ideal.exp (-(min ((60 : ℝ) : EReal) (max ((-60 : ℝ) : EReal) y)))) = y * Ideal.logistic y := by
  rw [max_eq_right h₁, min_eq_right h₂, Ideal.logistic, Ideal.div, Ideal.div, if_neg (denom_ne _), if_neg (denom_ne _), one_mul]

/-! ## Products -/

/-- A plain product over the reals, at an entry. -/
theorem dot_at {M K N : ℕ} (A : FVec Ideal ⟨2, ![M, K]⟩ .f32) (B : FVec Ideal ⟨2, ![K, N]⟩ .f32) (R : Fin M) (n : Fin N) :
    Host.dotGeneral (DotDims.plain M K N) none A B (ix2 R n) = ∑ k : Fin K, A (ix2 R k) * B (ix2 k n) :=
  (Ideal.matmul_plain_apply none A B (fun _ => 0) R n).trans (zero_add _)

variable (X : (⟨2, ![4096, 4096]⟩ : Shape).Idx → EReal) (W : (⟨2, ![4096, 8192]⟩ : Shape).Idx → EReal)

/-- The eight devices' blocks of the reference's `x` and `w`. -/
def xBlk (d : Fin 8) : S4096x512.Idx → EReal := Layout.block ⟨2, ![4096, 512]⟩ ⟨2, ![4096, 4096]⟩ 1 8 d X
/-- Device `d`'s block of `w`: 512 of its rows. -/
def wBlk (d : Fin 8) : S512x8192.Idx → EReal := Layout.block ⟨2, ![512, 8192]⟩ ⟨2, ![4096, 8192]⟩ 0 8 d W

/-- Column `k` of device `d`'s block of `x` is a column of `x`. -/
def colOf (d : Fin 8) (k : Fin 512) : Fin 4096 := ⟨k.val + 512 * d.val, by omega⟩

/-- Device `d`'s block of `x`, at an entry. -/
theorem xBlk_at (d : Fin 8) (R : Fin 4096) (k : Fin 512) : xBlk X d (ix2 R k) = X (ix2 R (colOf d k)) := by
  refine congrArg X (funext fun b => Fin.ext ?_)
  fin_cases b
  · rfl
  · show d.val * 512 + k.val = k.val + 512 * d.val
    omega
/-- Device `d`'s block of `w`, at an entry. -/
theorem wBlk_at (d : Fin 8) (k : Fin 512) (n : Fin 8192) : wBlk W d (ix2 k n) = W (ix2 (colOf d k) n) := by
  refine congrArg W (funext fun b => Fin.ext ?_)
  fin_cases b
  · show d.val * 512 + k.val = k.val + 512 * d.val
    omega
  · rfl

/-- The whole product is the sum of the devices'. -/
theorem whole_eq (R : Fin 4096) (n : Fin 8192) : ∑ K : Fin 4096, X (ix2 R K) * W (ix2 K n) = total (xBlk X) (wBlk W) R n := by
  have h : ∑ p : Fin 8 × Fin 512, X (ix2 R (colOf p.1 p.2)) * W (ix2 (colOf p.1 p.2) n) = ∑ K : Fin (8 * 512), X (ix2 R K) * W (ix2 K n) :=
    Fintype.sum_equiv finProdFinEquiv _ _ fun p => rfl
  refine h.symm.trans ?_
  rw [Fintype.sum_prod_type]
  unfold total part
  exact Finset.sum_congr rfl fun d _ => Finset.sum_congr rfl fun k _ => by rw [xBlk_at, wBlk_at]

/-! ## The bound -/

/-- Eight summands within 7.5 add to within 60. -/
theorem total_bound (X : Fin 8 → S4096x512.Idx → EReal) (W : Fin 8 → S512x8192.Idx → EReal) (R : Fin 4096) (n : Fin 8192)
    (h : ∀ d : Fin 8, max (part X W d R n) (-part X W d R n) ≤ ((7.5 : ℝ) : EReal)) :
    ((-60 : ℝ) : EReal) ≤ total X W R n ∧ total X W R n ≤ ((60 : ℝ) : EReal) := by
  have hu : ∀ d ∈ (Finset.univ : Finset (Fin 8)), part X W d R n ≤ ((7.5 : ℝ) : EReal) := fun d _ => (le_max_left _ _).trans (h d)
  have hl : ∀ d ∈ (Finset.univ : Finset (Fin 8)), ((-7.5 : ℝ) : EReal) ≤ part X W d R n := fun d _ => by
    have := (le_max_right _ _).trans (h d)
    rw [EReal.coe_neg]
    exact EReal.neg_le_of_neg_le this
  have h8 : ∀ r : ℝ, (Finset.univ : Finset (Fin 8)).card • (r : EReal) = ((8 * r : ℝ) : EReal) := fun r => by
    rw [Finset.card_univ, Fintype.card_fin, ← EReal.coe_nsmul]; norm_num
  have hu' := Finset.sum_le_card_nsmul _ _ _ hu
  have hl' := Finset.card_nsmul_le_sum _ _ _ hl
  rw [h8] at hu' hl'
  refine ⟨le_trans (le_of_eq ?_) hl', le_trans hu' (le_of_eq ?_)⟩ <;> norm_num

/-! ## The claim -/

/-- The side conditions of the precondition on a device's blocks: shapes that fit. -/
theorem small_facts : Cert.Pre_partials_bounded_KernelIdeal.Facts := ⟨by decide, by decide, by decide⟩
/-- The same on the whole arrays. -/
theorem small_facts_whole : Cert.Pre_partials_bounded_ReferenceIdeal.Facts := ⟨by decide, by decide, by decide⟩

/-- The precondition at an index: the device's own product there, in size at most 7.5. -/
theorem small_at [Cert.Pre_partials_bounded_KernelIdeal.Facts] (X : Fin 8 → S4096x512.Idx → EReal) (W : Fin 8 → S512x8192.Idx → EReal) (d : Fin 8)
    (h : Cert.Pre_partials_bounded_KernelIdeal.fn (F := Ideal) (X d) (W d) = fun _ => 1#1) (R : Fin 4096) (n : Fin 8192) :
    max (part X W d R n) (-part X W d R n) ≤ ((7.5 : ℝ) : EReal) := by
  have e : Host.dotGeneral (F := Ideal) (DotDims.plain 4096 512 8192) none (X d : FVec Ideal ⟨2, ![4096, 512]⟩ .f32) (W d : FVec Ideal ⟨2, ![512, 8192]⟩ .f32) (ix2 R n)
      = part X W d R n := dot_at _ _ R n
  have h' : Ideal.cmp .ole (max (Host.dotGeneral (F := Ideal) (DotDims.plain 4096 512 8192) none (X d : FVec Ideal ⟨2, ![4096, 512]⟩ .f32) (W d : FVec Ideal ⟨2, ![512, 8192]⟩ .f32) (ix2 R n))
      (-Host.dotGeneral (F := Ideal) (DotDims.plain 4096 512 8192) none (X d : FVec Ideal ⟨2, ![4096, 512]⟩ .f32) (W d : FVec Ideal ⟨2, ![512, 8192]⟩ .f32) (ix2 R n)))
      (Ideal.ofBits .f32 0x40F00000#32) = 1#1 := congrFun h (ix2 R n)
  rw [e, lit_bound] at h'
  by_contra hn
  simp [Ideal.cmp, hn] at h'

/-- The staged block of `x` is the device's argument. -/
theorem xst_eq (m : (ℓ : Loc nD τ sig) → Buf (Elt Ideal) ℓ) (c : Dev nD) : xst m c = m ((c : Thread nD τ).loc main_arg0) := by
  exact Memref.read_access_unit_zero (Elt Ideal) main_arg0 (funext fun _ => Nat.zero_mul _) (fun a => by fin_cases a <;> decide) _
/-- The staged block of `w` is the device's argument. -/
theorem wst_eq (m : (ℓ : Loc nD τ sig) → Buf (Elt Ideal) ℓ) (c : Dev nD) : wst m c = m ((c : Thread nD τ).loc main_arg1) := by
  exact Memref.read_access_unit_zero (Elt Ideal) main_arg1 (funext fun _ => Nat.zero_mul _) (fun a => by fin_cases a <;> decide) _

/-- The reference's activation at one entry: `y` over one plus the exponential of minus `y` clipped to ±60. -/
abbrev clipped (y : EReal) : EReal :=
  Ideal.div y (Ideal.ofBits .f32 0x3F800000#32 + Ideal.exp (-(min (Ideal.ofBits .f32 0x42700000#32) (max (Ideal.ofBits .f32 0xC2700000#32) y))))

/-- The reference's result as one term of its arguments. -/
abbrev refOut (X : (⟨2, ![4096, 4096]⟩ : Shape).Idx → EReal) (W : (⟨2, ![4096, 8192]⟩ : Shape).Idx → EReal) : FVec Ideal ⟨2, ![4096, 8192]⟩ .f32 :=
  fun i => clipped (Host.dotGeneral (F := Ideal) (φ₁ := .f32) (φ₂ := .f32) (DotDims.plain 4096 4096 8192) none X W i)

/-- Device `c`'s result is block `c` of the reference's. -/
theorem out_eq [Cert.Pre_partials_bounded_KernelIdeal.Facts] (X : (⟨2, ![4096, 4096]⟩ : Shape).Idx → EReal) (W : (⟨2, ![4096, 8192]⟩ : Shape).Idx → EReal)
    (h : ∀ d : Fin 8, Cert.Pre_partials_bounded_KernelIdeal.fn (F := Ideal) (xBlk X d) (wBlk W d) = fun _ => 1#1) (c : Fin 8) :
    outW (F := Ideal) (xBlk X) (wBlk W) c = Layout.block ⟨2, ![512, 8192]⟩ ⟨2, ![4096, 8192]⟩ 0 8 c (refOut X W) := by
  funext i
  obtain ⟨a, n, rfl⟩ : ∃ (a : Fin 512) (n : Fin 8192), i = ix2 a n := ⟨i 0, i 1, eq_ix2 i⟩
  refine (outW_at (xBlk X) (wBlk W) c a n).trans ?_
  have hb := total_bound (xBlk X) (wBlk W) (rowAt c a) n fun d => small_at (xBlk X) (wBlk W) d (h d) _ _
  rw [← silu_eq _ hb.1 hb.2, ← whole_eq]
  have hi : ∀ T : Layout.Tiles ⟨2, ![512, 8192]⟩ ⟨2, ![4096, 8192]⟩ 0 8, T.idx c (ix2 a n) = ix2 (rowAt c a) n := fun T => by
    funext b
    refine Fin.ext ?_
    fin_cases b
    · show c.val * 512 + a.val = 512 * c.val + a.val
      omega
    · rfl
  rw [Layout.block_apply, hi]
  refine Eq.trans ?_ (congrArg clipped (dot_at X W (rowAt c a) n).symm)
  unfold clipped
  rw [lit_one, lit_sixty, lit_neg, EReal.coe_one]

/-- The value claim. -/
theorem algebraic [Cert.Pre_partials_bounded_KernelIdeal.Facts] : Cert.algebraic_KernelIdeal_ReferenceIdeal_pre_partials_bounded_KernelIdeal := by
  intro m g m' g' hpre hb
  refine ⟨refOut (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine (θ_run _ _ _).mono (fun r h c => ⟨((h.1 c).2).trans ?_, (h.1 c).1⟩) (run_main (F := Ideal) m g)
    rw [← out_eq]
    · congr 1
      · funext d; exact (xst_eq m d).trans (hb d).1
      · funext d; exact (wst_eq m d).trans (hb d).2
    · intro d
      have := hpre d
      rw [(hb d).1, (hb d).2] at this
      exact this
  · exact (θ_run _ _ _).mono (fun r h => ⟨(h 0).1, (h 0).2⟩) (Cert.ReferenceIdeal.Value.run (F := Ideal) m' g')

end Cert.Compare

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Printed
public import proofs.«01_k».proof.Proof.Run
public import proofs.«01_k».proof.Proof.Compare
public import Idealize.ShloMosaic.Adequacy
public import Idealize.ShloMosaic.Init

@[expose] public section

noncomputable section

namespace Cert.Proof

open Idealize.ShloMosaic Idealize.SL.Sem Cert.Kernel

/-- The kernel over the reals: it ends, its arguments as they were and every counter at zero. -/
theorem frame_ideal : Cert.quiescent_KernelIdeal := fun m g _ =>
  (θ_run _ _ _).mono (fun _ h => ⟨fun c => (h.1 c).1, h.2⟩) (Cert.KernelIdeal.Ring.run_main m g)

/-- The reference over the reals: the same. -/
theorem frame_reference : Cert.quiescent_ReferenceIdeal := fun m g _ =>
  (θ_run _ _ _).mono (fun r h => ⟨fun c => (h c).2, Idealize.ShloMosaic.sem_eq_zero_of_no_sems (by decide) r.2⟩)
    (Cert.ReferenceIdeal.Value.run (F := Ideal) m g)

/-- The five claims together. -/
theorem claim : Cert.Claim := by
  haveI := Cert.Compare.small_facts
  haveI := Cert.Compare.small_facts_whole
  exact ⟨Cert.Kernel.Gen.facts, Cert.KernelIdeal.Gen.facts, Cert.ReferenceIdeal.Gen.facts, Cert.Compare.small_facts, Cert.Compare.small_facts_whole,
    Cert.Printed.frame_kernel, frame_ideal, fun m g _ => frame_ideal m g trivial, frame_reference, fun m g _ => frame_reference m g trivial, trivial,
    Cert.Compare.algebraic⟩

end Cert.Proof

end
